-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2560x2048 : Shape := ⟨3, ![8, 2560, 2048]⟩
abbrev S8x2560 : Shape := ⟨2, ![8, 2560]⟩
abbrev S8x2048 : Shape := ⟨2, ![8, 2048]⟩
abbrev S8x3x2048 : Shape := ⟨3, ![8, 3, 2048]⟩
abbrev S8x20x3x2048 : Shape := ⟨4, ![8, 20, 3, 2048]⟩
abbrev S1x256x2048 : Shape := ⟨3, ![1, 256, 2048]⟩
abbrev S1x3x2048 : Shape := ⟨3, ![1, 3, 2048]⟩
abbrev S1x2x3x2048 : Shape := ⟨4, ![1, 2, 3, 2048]⟩
abbrev S3x128x128 : Shape := ⟨3, ![3, 128, 128]⟩
abbrev S128x128 : Shape := ⟨2, ![128, 128]⟩
abbrev S2048 : Shape := ⟨1, ![2048]⟩
abbrev S1x2048 : Shape := ⟨2, ![1, 2048]⟩
abbrev S8x128 : Shape := ⟨2, ![8, 128]⟩
abbrev S128 : Shape := ⟨1, ![128]⟩
abbrev S1x128 : Shape := ⟨2, ![1, 128]⟩
abbrev S1x128x128 : Shape := ⟨3, ![1, 128, 128]⟩
abbrev S1x32x1 : Shape := ⟨3, ![1, 32, 1]⟩
abbrev S32x1 : Shape := ⟨2, ![32, 1]⟩
abbrev S1x32x2048 : Shape := ⟨3, ![1, 32, 2048]⟩
abbrev S32x2048 : Shape := ⟨2, ![32, 2048]⟩
abbrev S32 : Shape := ⟨1, ![32]⟩
abbrev S32x128 : Shape := ⟨2, ![32, 128]⟩
abbrev S4x8x2048 : Shape := ⟨3, ![4, 8, 2048]⟩
abbrev S1x1x1x2048 : Shape := ⟨4, ![1, 1, 1, 2048]⟩
abbrev S1x1x2048 : Shape := ⟨3, ![1, 1, 2048]⟩

abbrev nBuf : Space → Nat
  | .hbm => 14
  | .vmem => 24
  | .smem => 0
  | _ => 0

abbrev bufTy : (tb : Table) → Fin (tcTables nBuf tb) → BufTy
  | .hbm, ⟨0, _⟩ => ⟨S8x2560x2048, .fp8e4m3⟩
  | .hbm, ⟨1, _⟩ => ⟨S8x2560, .f32⟩
  | .hbm, ⟨2, _⟩ => ⟨S8x2560x2048, .bf16⟩
  | .hbm, ⟨3, _⟩ => ⟨S8x2560x2048, .fp8e5m2⟩
  | .hbm, ⟨4, _⟩ => ⟨S8x2560, .f32⟩
  | .hbm, ⟨5, _⟩ => ⟨S8x2560x2048, .fp8e5m2⟩
  | .hbm, ⟨6, _⟩ => ⟨S8x2560, .f32⟩
  | .hbm, ⟨7, _⟩ => ⟨S8x2048, .f32⟩
  | .hbm, ⟨8, _⟩ => ⟨S8x2048, .f32⟩
  | .hbm, ⟨9, _⟩ => ⟨S8x2560x2048, .bf16⟩
  | .hbm, ⟨10, _⟩ => ⟨S8x3x2048, .f32⟩
  | .hbm, ⟨11, _⟩ => ⟨S8x20x3x2048, .f32⟩
  | .hbm, ⟨12, _⟩ => ⟨S8x2560x2048, .fp8e4m3⟩
  | .hbm, ⟨13, _⟩ => ⟨S8x2560, .f32⟩
  | .local _ .vmem, ⟨0, _⟩ => ⟨S1x256x2048, .fp8e4m3⟩
  | .local _ .vmem, ⟨1, _⟩ => ⟨S1x256x2048, .fp8e4m3⟩
  | .local _ .vmem, ⟨2, _⟩ => ⟨S1x256x2048, .fp8e5m2⟩
  | .local _ .vmem, ⟨3, _⟩ => ⟨S1x256x2048, .fp8e5m2⟩
  | .local _ .vmem, ⟨4, _⟩ => ⟨S1x256x2048, .fp8e5m2⟩
  | .local _ .vmem, ⟨5, _⟩ => ⟨S1x256x2048, .fp8e5m2⟩
  | .local _ .vmem, ⟨6, _⟩ => ⟨S1x256x2048, .bf16⟩
  | .local _ .vmem, ⟨7, _⟩ => ⟨S1x256x2048, .bf16⟩
  | .local _ .vmem, ⟨8, _⟩ => ⟨S8x2560, .f32⟩
  | .local _ .vmem, ⟨9, _⟩ => ⟨S8x2560, .f32⟩
  | .local _ .vmem, ⟨10, _⟩ => ⟨S8x2560, .f32⟩
  | .local _ .vmem, ⟨11, _⟩ => ⟨S8x2048, .f32⟩
  | .local _ .vmem, ⟨12, _⟩ => ⟨S8x2048, .f32⟩
  | .local _ .vmem, ⟨13, _⟩ => ⟨S1x256x2048, .bf16⟩
  | .local _ .vmem, ⟨14, _⟩ => ⟨S1x256x2048, .bf16⟩
  | .local _ .vmem, ⟨15, _⟩ => ⟨S1x3x2048, .f32⟩
  | .local _ .vmem, ⟨16, _⟩ => ⟨S1x3x2048, .f32⟩
  | .local _ .vmem, ⟨17, _⟩ => ⟨S1x2x3x2048, .f32⟩
  | .local _ .vmem, ⟨18, _⟩ => ⟨S1x2x3x2048, .f32⟩
  | .local _ .vmem, ⟨19, _⟩ => ⟨S1x256x2048, .fp8e4m3⟩
  | .local _ .vmem, ⟨20, _⟩ => ⟨S1x256x2048, .fp8e4m3⟩
  | .local _ .vmem, ⟨21, _⟩ => ⟨S8x2560, .f32⟩
  | .local _ .vmem, ⟨22, _⟩ => ⟨S3x128x128, .f32⟩
  | .local _ .vmem, ⟨23, _⟩ => ⟨S128x128, .f32⟩
  | _, _ => ⟨S8x2560x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨2, ![8, 10], ![false, false]⟩

def k0_mult1 (i : grid0.Coords) : BitVec 32 :=
  let arg1 : BitVec 32 := BitVec.ofNat 32 (i 1).val
  let c256_i32 : BitVec 32 := 256#32
  let v21 : BitVec 32 := Scalar.muli arg1 c256_i32
  let c0_i32_8 : BitVec 32 := 0#32
  let v22 : BitVec 32 := Scalar.addi v21 c0_i32_8
  v22
def k0_off1 (i : grid0.Coords) (c0_i32_8 : BitVec 32) : Fin 2 → Nat :=
  let c0_9 : Index := 0#32
  let arg1 : BitVec 32 := BitVec.ofNat 32 (i 1).val
  let c256_i32 : BitVec 32 := 256#32
  let v21 : BitVec 32 := Scalar.muli arg1 c256_i32
  let v22 : BitVec 32 := Scalar.addi v21 c0_i32_8
  let v23 : BitVec 32 := v22
  let v24 : Index := Scalar.indexCast v23
  ![0, v24.toNat]
@[reducible] def k0_t1_loop : Scf.Loop 32 :=
  let c0_i32_26 : BitVec 32 := 0#32
  let c4_i32 : BitVec 32 := 4#32
  let v70 : BitVec 32 := Scalar.addi c0_i32_26 c4_i32
  let c1_i32 : BitVec 32 := 1#32
  ⟨c0_i32_26, v70, c1_i32⟩
def k0_mult2 (k0_t1 : Fin k0_t1_loop.trips) : BitVec 32 :=
  let c0_i32_26 : BitVec 32 := 0#32
  let c1_i32 : BitVec 32 := 1#32
  let arg18 : BitVec 32 := Scf.iv c0_i32_26 c1_i32 k0_t1
  let c32_i32 : BitVec 32 := 32#32
  let v211 : BitVec 32 := Scalar.muli arg18 c32_i32
  v211
def k0_mult3 (k0_t1 : Fin k0_t1_loop.trips) : BitVec 32 :=
  let c0_i32_124 : BitVec 32 := 0#32
  let c0_i32_26 : BitVec 32 := 0#32
  let c1_i32 : BitVec 32 := 1#32
  let arg18 : BitVec 32 := Scf.iv c0_i32_26 c1_i32 k0_t1
  let c32_i32 : BitVec 32 := 32#32
  let v211 : BitVec 32 := Scalar.muli arg18 c32_i32
  let v212 : BitVec 32 := v211
  let v213 : BitVec 32 := Scalar.addi c0_i32_124 v212
  v213
def k0_off2 (k0_t1 : Fin k0_t1_loop.trips) : Fin 3 → Nat :=
  let c0_125 : Index := 0#32
  let c0_i32_26 : BitVec 32 := 0#32
  let c1_i32 : BitVec 32 := 1#32
  let arg18 : BitVec 32 := Scf.iv c0_i32_26 c1_i32 k0_t1
  let c32_i32 : BitVec 32 := 32#32
  let v211 : BitVec 32 := Scalar.muli arg18 c32_i32
  let v212 : BitVec 32 := v211
  let v215 : Index := Scalar.indexCast v212
  let c0_126 : Index := 0#32
  ![0, v215.toNat, 0]
def k0_off3 (k0_t1 : Fin k0_t1_loop.trips) : Fin 3 → Nat :=
  let c1_127 : Index := 1#32
  let c0_i32_26 : BitVec 32 := 0#32
  let c1_i32 : BitVec 32 := 1#32
  let arg18 : BitVec 32 := Scf.iv c0_i32_26 c1_i32 k0_t1
  let c32_i32 : BitVec 32 := 32#32
  let v211 : BitVec 32 := Scalar.muli arg18 c32_i32
  let v212 : BitVec 32 := v211
  let v218 : Index := Scalar.indexCast v212
  let c0_128 : Index := 0#32
  ![1, v218.toNat, 0]
def k0_off4 (k0_t1 : Fin k0_t1_loop.trips) : Fin 3 → Nat :=
  let c2_129 : Index := 2#32
  let c0_i32_26 : BitVec 32 := 0#32
  let c1_i32 : BitVec 32 := 1#32
  let arg18 : BitVec 32 := Scf.iv c0_i32_26 c1_i32 k0_t1
  let c32_i32 : BitVec 32 := 32#32
  let v211 : BitVec 32 := Scalar.muli arg18 c32_i32
  let v212 : BitVec 32 := v211
  let v221 : Index := Scalar.indexCast v212
  let c0_130 : Index := 0#32
  ![2, v221.toNat, 0]
def k0_off5 (k0_t1 : Fin k0_t1_loop.trips) : Fin 3 → Nat :=
  let c0_131 : Index := 0#32
  let c0_i32_124 : BitVec 32 := 0#32
  let c0_i32_26 : BitVec 32 := 0#32
  let c1_i32 : BitVec 32 := 1#32
  let arg18 : BitVec 32 := Scf.iv c0_i32_26 c1_i32 k0_t1
  let c32_i32 : BitVec 32 := 32#32
  let v211 : BitVec 32 := Scalar.muli arg18 c32_i32
  let v212 : BitVec 32 := v211
  let v213 : BitVec 32 := Scalar.addi c0_i32_124 v212
  let v214 : BitVec 32 := v213
  let v224 : Index := Scalar.indexCast v214
  let c0_132 : Index := 0#32
  ![0, v224.toNat, 0]
def k0_off6 (k0_t1 : Fin k0_t1_loop.trips) : Fin 2 → Nat :=
  let c0_i32_26 : BitVec 32 := 0#32
  let c1_i32 : BitVec 32 := 1#32
  let arg18 : BitVec 32 := Scf.iv c0_i32_26 c1_i32 k0_t1
  let c32_i32 : BitVec 32 := 32#32
  let v211 : BitVec 32 := Scalar.muli arg18 c32_i32
  let v212 : BitVec 32 := v211
  let v362 : Index := Scalar.indexCast v212
  let c0_170 : Index := 0#32
  ![v362.toNat, 0]
def k0_mult4 (i : grid0.Coords) : BitVec 32 :=
  let arg1 : BitVec 32 := BitVec.ofNat 32 (i 1).val
  let c256_i32_64 : BitVec 32 := 256#32
  let v116 : BitVec 32 := Scalar.muli arg1 c256_i32_64
  let c128_i32 : BitVec 32 := 128#32
  let v117 : BitVec 32 := Scalar.addi v116 c128_i32
  v117
@[reducible] def k0_t2_loop : Scf.Loop 32 :=
  let c0_i32_84 : BitVec 32 := 0#32
  let c4_i32_85 : BitVec 32 := 4#32
  let v165 : BitVec 32 := Scalar.addi c0_i32_84 c4_i32_85
  let c1_i32_86 : BitVec 32 := 1#32
  ⟨c0_i32_84, v165, c1_i32_86⟩
def k0_mult5 (k0_t2 : Fin k0_t2_loop.trips) : BitVec 32 :=
  let c0_i32_84 : BitVec 32 := 0#32
  let c1_i32_86 : BitVec 32 := 1#32
  let arg18 : BitVec 32 := Scf.iv c0_i32_84 c1_i32_86 k0_t2
  let c32_i32 : BitVec 32 := 32#32
  let v211 : BitVec 32 := Scalar.muli arg18 c32_i32
  v211
def k0_mult6 (k0_t2 : Fin k0_t2_loop.trips) : BitVec 32 :=
  let c128_i32_124 : BitVec 32 := 128#32
  let c0_i32_84 : BitVec 32 := 0#32
  let c1_i32_86 : BitVec 32 := 1#32
  let arg18 : BitVec 32 := Scf.iv c0_i32_84 c1_i32_86 k0_t2
  let c32_i32 : BitVec 32 := 32#32
  let v211 : BitVec 32 := Scalar.muli arg18 c32_i32
  let v212 : BitVec 32 := v211
  let v213 : BitVec 32 := Scalar.addi c128_i32_124 v212
  v213
def k0_off7 (k0_t2 : Fin k0_t2_loop.trips) : Fin 3 → Nat :=
  let c0_125 : Index := 0#32
  let c0_i32_84 : BitVec 32 := 0#32
  let c1_i32_86 : BitVec 32 := 1#32
  let arg18 : BitVec 32 := Scf.iv c0_i32_84 c1_i32_86 k0_t2
  let c32_i32 : BitVec 32 := 32#32
  let v211 : BitVec 32 := Scalar.muli arg18 c32_i32
  let v212 : BitVec 32 := v211
  let v215 : Index := Scalar.indexCast v212
  let c0_126 : Index := 0#32
  ![0, v215.toNat, 0]
def k0_off8 (k0_t2 : Fin k0_t2_loop.trips) : Fin 3 → Nat :=
  let c1_127 : Index := 1#32
  let c0_i32_84 : BitVec 32 := 0#32
  let c1_i32_86 : BitVec 32 := 1#32
  let arg18 : BitVec 32 := Scf.iv c0_i32_84 c1_i32_86 k0_t2
  let c32_i32 : BitVec 32 := 32#32
  let v211 : BitVec 32 := Scalar.muli arg18 c32_i32
  let v212 : BitVec 32 := v211
  let v218 : Index := Scalar.indexCast v212
  let c0_128 : Index := 0#32
  ![1, v218.toNat, 0]
def k0_off9 (k0_t2 : Fin k0_t2_loop.trips) : Fin 3 → Nat :=
  let c2_129 : Index := 2#32
  let c0_i32_84 : BitVec 32 := 0#32
  let c1_i32_86 : BitVec 32 := 1#32
  let arg18 : BitVec 32 := Scf.iv c0_i32_84 c1_i32_86 k0_t2
  let c32_i32 : BitVec 32 := 32#32
  let v211 : BitVec 32 := Scalar.muli arg18 c32_i32
  let v212 : BitVec 32 := v211
  let v221 : Index := Scalar.indexCast v212
  let c0_130 : Index := 0#32
  ![2, v221.toNat, 0]
def k0_off10 (k0_t2 : Fin k0_t2_loop.trips) : Fin 3 → Nat :=
  let c0_131 : Index := 0#32
  let c128_i32_124 : BitVec 32 := 128#32
  let c0_i32_84 : BitVec 32 := 0#32
  let c1_i32_86 : BitVec 32 := 1#32
  let arg18 : BitVec 32 := Scf.iv c0_i32_84 c1_i32_86 k0_t2
  let c32_i32 : BitVec 32 := 32#32
  let v211 : BitVec 32 := Scalar.muli arg18 c32_i32
  let v212 : BitVec 32 := v211
  let v213 : BitVec 32 := Scalar.addi c128_i32_124 v212
  let v214 : BitVec 32 := v213
  let v224 : Index := Scalar.indexCast v214
  let c0_132 : Index := 0#32
  ![0, v224.toNat, 0]
def k0_off11 (k0_t2 : Fin k0_t2_loop.trips) : Fin 2 → Nat :=
  let c0_i32_84 : BitVec 32 := 0#32
  let c1_i32_86 : BitVec 32 := 1#32
  let arg18 : BitVec 32 := Scf.iv c0_i32_84 c1_i32_86 k0_t2
  let c32_i32 : BitVec 32 := 32#32
  let v211 : BitVec 32 := Scalar.muli arg18 c32_i32
  let v212 : BitVec 32 := v211
  let v362 : Index := Scalar.indexCast v212
  let c0_170 : Index := 0#32
  ![v362.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x3x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2048 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x2560 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ReferenceIdeal.lean ====
abbrev S8x2560x2048 : Shape := ⟨3, ![8, 2560, 2048]⟩
abbrev S8x2560 : Shape := ⟨2, ![8, 2560]⟩
abbrev S8x2048 : Shape := ⟨2, ![8, 2048]⟩
abbrev S8x3x2048 : Shape := ⟨3, ![8, 3, 2048]⟩
abbrev S8x20x3x2048 : Shape := ⟨4, ![8, 20, 3, 2048]⟩
abbrev S8x2560x1 : Shape := ⟨3, ![8, 2560, 1]⟩
abbrev S8x1x2048 : Shape := ⟨3, ![8, 1, 2048]⟩
abbrev S8x2560x247 : Shape := ⟨3, ![8, 2560, 247]⟩
abbrev S8x20x128x2048 : Shape := ⟨4, ![8, 20, 128, 2048]⟩
abbrev S8x20x2048 : Shape := ⟨3, ![8, 20, 2048]⟩
abbrev S8x20x1x2048 : Shape := ⟨4, ![8, 20, 1, 2048]⟩

abbrev nBuf : Space → Nat
  | .hbm => 14
  | .vmem => 14
  | .smem => 0
  | _ => 0

abbrev bufTy : (tb : Table) → Fin (tcTables nBuf tb) → BufTy
  | .hbm, ⟨0, _⟩ => ⟨S8x2560x2048, .fp8e4m3⟩
  | .hbm, ⟨1, _⟩ => ⟨S8x2560, .f32⟩
  | .hbm, ⟨2, _⟩ => ⟨S8x2560x2048, .bf16⟩
  | .hbm, ⟨3, _⟩ => ⟨S8x2560x2048, .fp8e5m2⟩
  | .hbm, ⟨4, _⟩ => ⟨S8x2560, .f32⟩
  | .hbm, ⟨5, _⟩ => ⟨S8x2560x2048, .fp8e5m2⟩
  | .hbm, ⟨6, _⟩ => ⟨S8x2560, .f32⟩
  | .hbm, ⟨7, _⟩ => ⟨S8x2048, .f32⟩
  | .hbm, ⟨8, _⟩ => ⟨S8x2048, .f32⟩
  | .hbm, ⟨9, _⟩ => ⟨S8x2560x2048, .bf16⟩
  | .hbm, ⟨10, _⟩ => ⟨S8x3x2048, .f32⟩
  | .hbm, ⟨11, _⟩ => ⟨S8x20x3x2048, .f32⟩
  | .hbm, ⟨12, _⟩ => ⟨S8x2560x2048, .fp8e4m3⟩
  | .hbm, ⟨13, _⟩ => ⟨S8x2560, .f32⟩
  | .local _ .vmem, ⟨0, _⟩ => ⟨S8x2560x2048, .fp8e4m3⟩
  | .local _ .vmem, ⟨1, _⟩ => ⟨S8x2560, .f32⟩
  | .local _ .vmem, ⟨2, _⟩ => ⟨S8x2560x2048, .bf16⟩
  | .local _ .vmem, ⟨3, _⟩ => ⟨S8x2560x2048, .fp8e5m2⟩
  | .local _ .vmem, ⟨4, _⟩ => ⟨S8x2560, .f32⟩
  | .local _ .vmem, ⟨5, _⟩ => ⟨S8x2560x2048, .fp8e5m2⟩
  | .local _ .vmem, ⟨6, _⟩ => ⟨S8x2560, .f32⟩
  | .local _ .vmem, ⟨7, _⟩ => ⟨S8x2048, .f32⟩
  | .local _ .vmem, ⟨8, _⟩ => ⟨S8x2048, .f32⟩
  | .local _ .vmem, ⟨9, _⟩ => ⟨S8x2560x2048, .bf16⟩
  | .local _ .vmem, ⟨10, _⟩ => ⟨S8x3x2048, .f32⟩
  | .local _ .vmem, ⟨11, _⟩ => ⟨S8x20x3x2048, .f32⟩
  | .local _ .vmem, ⟨12, _⟩ => ⟨S8x2560x2048, .fp8e4m3⟩
  | .local _ .vmem, ⟨13, _⟩ => ⟨S8x2560, .f32⟩
  | _, _ => ⟨S8x2560x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S8x2560x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2560x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2560x2048 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2560x2048 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2560x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x3x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x20x3x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x2560x2048 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x2560 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KernelScaffold.lean ====
/- What the runs of the kernel's body share: its one branch condition over the grid points, the staging and scratch
   buffers as the pipeline passes them, and the argument arrays' part of a final state. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Frame

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- A run whose final arrays are as some proof data name them, from the arrays the region finds, leaves the arguments
    unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 4 rfl).trans ((hA c 4).trans (V_main_arg1 m c)),
      (Pipeline.RDat.FramePost.arr_in h c 3 rfl).trans ((hA c 3).trans (V_main_arg2 m c)),
      (Pipeline.RDat.FramePost.arr_in h c 1 rfl).trans ((hA c 1).trans (V_main_arg3 m c)),
      (Pipeline.RDat.FramePost.arr_in h c 5 rfl).trans ((hA c 5).trans (V_main_arg4 m c)),
      (Pipeline.RDat.FramePost.arr_in h c 2 rfl).trans ((hA c 2).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 10) — by arithmetic of the point. -/
theorem hcond0_0 : ∀ t : Fin cfg0.N, cond0_0 (grid0.coords t) ↔ t.val % 10 = 0 :=
  (fun t => by
    have ht : t.val < 80 := Nat.lt_of_lt_of_eq t.isLt N_0
    have e0 : (grid0.coords t 0).val = t.val / 10 % 8 := Pipeline.Grid.coords_val t 0 (by decide) rfl
    have e1 : (grid0.coords t 1).val = t.val / 1 % 10 := Pipeline.Grid.coords_val t 1 (by decide) rfl
    simp only [cond0_0, e0, e1]
    word_cmp
   : ∀ t : Fin grid0.N, cond0_0 (grid0.coords t) ↔ t.val % 10 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x256x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x2560 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x2560 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x3x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x3x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x2048 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x2560 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S3x128x128 .f32 := Memref.whole cc0_scratch0
abbrev scM0_1 : Memref sig .tc .vmem S128x128 .f32 := Memref.whole cc0_scratch1

/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Frame

end
-- ==== Proof.KernelRunA.lean ====
/- The kernel's body at a point that clears its running sums (the first row block of a batch), as a triple on whole
   staging buffers; nothing is said of what it leaves in the outputs. -/
module

public import proofs.«01_k».proof.Proof.KernelScaffold

@[expose] public section

-- membership in a rectangle of production extents (`View.cover_of_tiled`): the elaborator's structural look
-- recurses once per coordinate of the long axes
set_option maxRecDepth 16384

noncomputable section

namespace Cert.Kernel.Frame

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- At the first point of a batch the body, on whole staging buffers, runs and hands back the inputs' buffers as they were and the outputs'
    and the scratch buffers at some contents. -/
theorem runA (c : Dev nD) (i : grid0.Coords) (arg2 : Memref sig .tc .vmem S1x256x2048 .fp8e4m3) (harg2 : arg2.IsWhole) (arg3 : Memref sig .tc .vmem S1x256x2048 .fp8e5m2) (harg3 : arg3.IsWhole) (arg4 : Memref sig .tc .vmem S1x256x2048 .fp8e5m2) (harg4 : arg4.IsWhole) (arg5 : Memref sig .tc .vmem S1x256x2048 .bf16) (harg5 : arg5.IsWhole) (arg6 : Memref sig .tc .vmem S8x2560 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2048 .f32) (harg9 : arg9.IsWhole) (arg10 : Memref sig .tc .vmem S8x2048 .f32) (harg10 : arg10.IsWhole) (arg11 : Memref sig .tc .vmem S1x256x2048 .bf16) (harg11 : arg11.IsWhole) (arg12 : Memref sig .tc .vmem S1x3x2048 .f32) (harg12 : arg12.IsWhole) (arg13 : Memref sig .tc .vmem S1x2x3x2048 .f32) (harg13 : arg13.IsWhole) (arg14 : Memref sig .tc .vmem S1x256x2048 .fp8e4m3) (harg14 : arg14.IsWhole) (arg15 : Memref sig .tc .vmem S8x2560 .f32) (harg15 : arg15.IsWhole) (arg16 : Memref sig .tc .vmem S3x128x128 .f32) (harg16 : arg16.IsWhole) (arg17 : Memref sig .tc .vmem S128x128 .f32) (harg17 : arg17.IsWhole) (hc0 : cond0_0 i)
    (x0 : Vec F S1x256x2048 .fp8e4m3) (x1 : Vec F S1x256x2048 .fp8e5m2) (x2 : Vec F S1x256x2048 .fp8e5m2) (x3 : Vec F S1x256x2048 .bf16) (x4 : Vec F S8x2560 .f32) (x5 : Vec F S8x2560 .f32) (x6 : Vec F S8x2560 .f32) (x7 : Vec F S8x2048 .f32) (x8 : Vec F S8x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_adaln_bwd_eq_skeleton]; unfold cc0_adaln_bwd_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    iexists _, _; isplitr; swap; · iexact HS1
    ipureintro; rfl

end Cert.Kernel.Frame

end
-- ==== Proof.KernelRunB.lean ====
/- The kernel's body at every other point, as a triple on whole staging buffers; nothing is said of what it leaves in
   the outputs. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Frame

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- At any other point the body, on whole staging buffers, runs and hands back the inputs' buffers as they were and the outputs'
    and the scratch buffers at some contents. -/
theorem runB (c : Dev nD) (i : grid0.Coords) (arg2 : Memref sig .tc .vmem S1x256x2048 .fp8e4m3) (harg2 : arg2.IsWhole) (arg3 : Memref sig .tc .vmem S1x256x2048 .fp8e5m2) (harg3 : arg3.IsWhole) (arg4 : Memref sig .tc .vmem S1x256x2048 .fp8e5m2) (harg4 : arg4.IsWhole) (arg5 : Memref sig .tc .vmem S1x256x2048 .bf16) (harg5 : arg5.IsWhole) (arg6 : Memref sig .tc .vmem S8x2560 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2048 .f32) (harg9 : arg9.IsWhole) (arg10 : Memref sig .tc .vmem S8x2048 .f32) (harg10 : arg10.IsWhole) (arg11 : Memref sig .tc .vmem S1x256x2048 .bf16) (harg11 : arg11.IsWhole) (arg12 : Memref sig .tc .vmem S1x3x2048 .f32) (harg12 : arg12.IsWhole) (arg13 : Memref sig .tc .vmem S1x2x3x2048 .f32) (harg13 : arg13.IsWhole) (arg14 : Memref sig .tc .vmem S1x256x2048 .fp8e4m3) (harg14 : arg14.IsWhole) (arg15 : Memref sig .tc .vmem S8x2560 .f32) (harg15 : arg15.IsWhole) (arg16 : Memref sig .tc .vmem S3x128x128 .f32) (harg16 : arg16.IsWhole) (arg17 : Memref sig .tc .vmem S128x128 .f32) (harg17 : arg17.IsWhole) (hc0 : ¬cond0_0 i)
    (x0 : Vec F S1x256x2048 .fp8e4m3) (x1 : Vec F S1x256x2048 .fp8e5m2) (x2 : Vec F S1x256x2048 .fp8e5m2) (x3 : Vec F S1x256x2048 .bf16) (x4 : Vec F S8x2560 .f32) (x5 : Vec F S8x2560 .f32) (x6 : Vec F S8x2560 .f32) (x7 : Vec F S8x2048 .f32) (x8 : Vec F S8x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_adaln_bwd_eq_skeleton]; unfold cc0_adaln_bwd_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    iexists _, _; isplitr; swap; · iexact HS1
    ipureintro; rfl

end Cert.Kernel.Frame

end
-- ==== Proof.KernelFrame.lean ====
/- The frame of the kernel: every run of it ends, its argument arrays unchanged and every semaphore counter at zero. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Frame

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows (9 to 13): the frame claim says nothing of what the kernel leaves in them. -/
def forgets0 : Fin 14 → Bool := fun w => w.val == 9 || w.val == 10 || w.val == 11 || w.val == 12 || w.val == 13

/-- The proof data of the one pipeline on core `c`: the arrays as the region finds them (`V`); after the body at
    point `t` each input's buffer at its block and the outputs, unnamed (`Dat.unnamed`); the invariant the class's
    (`ΦA`: the scratch buffers and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  have hN : t.val < 80 := lt_of_lt_of_eq t.isLt (show cfg0.N = 80 from N_0)
  by_cases h0 : t.val % 10 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runB c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- Every run ends with every input array unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- The frame claim: every run ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Frame

end
-- ==== Proof.Scaffold.lean ====
/- What the runs of the kernel's body in extended reals share: its one branch condition over the grid points, and the
   staging and scratch buffers as the pipeline passes them. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 10) — by arithmetic of the point. -/
theorem hcond0_0 : ∀ t : Fin cfg0.N, cond0_0 (grid0.coords t) ↔ t.val % 10 = 0 :=
  (fun t => by
    have ht : t.val < 80 := Nat.lt_of_lt_of_eq t.isLt N_0
    have e0 : (grid0.coords t 0).val = t.val / 10 % 8 := Pipeline.Grid.coords_val t 0 (by decide) rfl
    have e1 : (grid0.coords t 1).val = t.val / 1 % 10 := Pipeline.Grid.coords_val t 1 (by decide) rfl
    simp only [cond0_0, e0, e1]
    word_cmp
   : ∀ t : Fin grid0.N, cond0_0 (grid0.coords t) ↔ t.val % 10 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x256x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x2560 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x2560 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x3x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x3x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x2048 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x2560 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S3x128x128 .f32 := Memref.whole cc0_scratch0
abbrev scM0_1 : Memref sig .tc .vmem S128x128 .f32 := Memref.whole cc0_scratch1

/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.Spec.lean ====
/- The mathematics of one row, in extended reals: layer normalisation, its modulation, its backward and the
   block scale of the modulated row's fp8 copy. Both programs are shown to compute these functions. -/
module
public import Idealize.ShloMosaic.PureOps.Ideal
public import Idealize.ShloMosaic.Lib.Pointwise
@[expose] public section
noncomputable section
namespace Cert.Spec
open Idealize.ShloMosaic

theorem ex2 {a b : ℕ} (j : (⟨2, ![a, b]⟩ : Shape).Idx) : ∃ (p : Fin a) (q : Fin b), j = ix2 p q := ⟨_, _, eq_ix2 j⟩
theorem ex3 {a b c : ℕ} (j : (⟨3, ![a, b, c]⟩ : Shape).Idx) : ∃ (p : Fin a) (q : Fin b) (r : Fin c), j = ix3 p q r :=
  ⟨_, _, _, eq_ix3 j⟩
theorem ex4 {a b c d : ℕ} (j : (⟨4, ![a, b, c, d]⟩ : Shape).Idx) :
    ∃ (p : Fin a) (q : Fin b) (r : Fin c) (s : Fin d), j = ix4 p q r s := ⟨_, _, _, _, eq_ix4 j⟩

/-- One row of 2048 numbers. -/
abbrev Row := Fin 2048 → EReal

/-- The mean of a row: its sum over the f32 constant 2048. -/
def mean (v : Row) : EReal := Ideal.div (∑ d, v d) (Ideal.ofBits .f32 0x45000000#32)

/-- A row minus its mean. -/
def cent (x : Row) : Row := fun d => x d - mean x

/-- The reciprocal standard deviation of a row, with the f32 constant 1e-6 under the root. -/
def rstd (x : Row) : EReal :=
  Ideal.rsqrt (mean (fun d => cent x d * cent x d) + Ideal.ofBits .f32 0x358637BD#32)

/-- The normalised row. -/
def xhat (x : Row) : Row := fun d => cent x d * rstd x

/-- The modulated row: the normalised row times `o` plus `s`. -/
def hrow (x o s : Row) : Row := fun d => xhat x d * o d + s d

/-- The largest magnitude of a row. -/
def amax (h : Row) : EReal := Finset.univ.fold max (Ideal.ofBits .f32 0xFF800000#32) fun d => max (h d) (-(h d))

/-- Two to an integer power. -/
def pow2 (e : ℤ) : EReal := (((2 : ℝ) ^ e : ℝ) : EReal)

/-- The scale of a row whose largest magnitude is `a`: the least power of two `2^e`, `-126 ≤ e ≤ 120`, above
    `a / 448` (the f32 constant nearest 1/448 times `a`), `2^120` where there is none, and one where `a` is zero. -/
def scale (a : EReal) : EReal :=
  if a = 0 then 1 else Finset.univ.fold min ⊤ fun k : Fin 247 =>
    if a * Ideal.ofBits .f32 0x3B124925#32 < pow2 (((k : ℕ) : ℤ) - 126) then pow2 (((k : ℕ) : ℤ) - 126) else pow2 120

/-- The fp8 value of `v` under the scale `s`: the quotient clipped to ±448. -/
def code (v s : EReal) : EReal :=
  min (Ideal.ofBits .f32 0x43E00000#32) (max (Ideal.ofBits .f32 0xC3E00000#32) (v * Ideal.div 1 s))

/-- The input gradient of a row: the incoming residual gradient `dy` plus the layer norm's backward of `dh * o`. -/
def dxrow (x dy dh o : Row) : Row := fun d =>
  dy d + rstd x * (dh d * o d - mean (fun e => dh e * o e) - xhat x d * mean (fun e => dh e * o e * xhat x e))

/-! ### The nine arrays and the five results -/

/-- The nine argument arrays as functions of their coordinates: codes and row scales of `x`, the branch output `f`,
    codes and row scales of `dy` and of `dh`, and the modulation's scale `ms` and shift `mh`. -/
structure Args where
  x : Fin 8 → Fin 2560 → Fin 2048 → EReal
  xs : Fin 8 → Fin 2560 → EReal
  f : Fin 8 → Fin 2560 → Fin 2048 → EReal
  dy : Fin 8 → Fin 2560 → Fin 2048 → EReal
  dys : Fin 8 → Fin 2560 → EReal
  dh : Fin 8 → Fin 2560 → Fin 2048 → EReal
  dhs : Fin 8 → Fin 2560 → EReal
  ms : Fin 8 → Fin 2048 → EReal
  mh : Fin 8 → Fin 2048 → EReal

namespace Args
variable (A : Args)

/-- The dequantised rows, and one plus the modulation's scale. -/
def xr (b : Fin 8) (r : Fin 2560) : Row := fun d => A.x b r d * A.xs b r
def dyr (b : Fin 8) (r : Fin 2560) : Row := fun d => A.dy b r d * A.dys b r
def dhr (b : Fin 8) (r : Fin 2560) : Row := fun d => A.dh b r d * A.dhs b r
def o (b : Fin 8) : Row := fun d => 1 + A.ms b d
def h (b : Fin 8) (r : Fin 2560) : Row := hrow (A.xr b r) (A.o b) (A.mh b)

/-- The input gradient. -/
def dx (b : Fin 8) (r : Fin 2560) : Row := dxrow (A.xr b r) (A.dyr b r) (A.dhr b r) (A.o b)

/-- The scale of the row's fp8 copy. -/
def hs (b : Fin 8) (r : Fin 2560) : EReal := scale (amax (A.h b r))

/-- The row's fp8 copy. -/
def hq (b : Fin 8) (r : Fin 2560) : Row := fun d => code (A.h b r d) (A.hs b r)

/-- What one row gives to the three modulation gradients: shift, scale, gate. -/
def dm (b : Fin 8) (q : Fin 3) (r : Fin 2560) : Row := fun d =>
  if q.val = 0 then A.dhr b r d
  else if q.val = 1 then A.dhr b r d * xhat (A.xr b r) d
  else A.dyr b r d * A.f b r d

/-- The modulation gradients of one block of 128 rows. -/
def blk (b : Fin 8) (s : Fin 20) (q : Fin 3) : Row := fun d =>
  ∑ j : Fin 128, A.dm b q ⟨s.val * 128 + j.val, by omega⟩ d

/-- The modulation gradients. -/
def dmod (b : Fin 8) (q : Fin 3) : Row := fun d => ∑ s : Fin 20, A.blk b s q d

/-! The results as arrays. -/

def dxA : (⟨3, ![8, 2560, 2048]⟩ : Shape).Idx → EReal := fun j => A.dx (j 0) (j 1) (j 2)
def dmodA : (⟨3, ![8, 3, 2048]⟩ : Shape).Idx → EReal := fun j => A.dmod (j 0) (j 1) (j 2)
def blkA : (⟨4, ![8, 20, 3, 2048]⟩ : Shape).Idx → EReal := fun j => A.blk (j 0) (j 1) (j 2) (j 3)
def hqA : (⟨3, ![8, 2560, 2048]⟩ : Shape).Idx → EReal := fun j => A.hq (j 0) (j 1) (j 2)
def hsA : (⟨2, ![8, 2560]⟩ : Shape).Idx → EReal := fun j => A.hs (j 0) (j 1)

end Args

/-- The argument arrays, in the programs' order, as functions of their coordinates. -/
def argsOf (a0 : (⟨3, ![8, 2560, 2048]⟩ : Shape).Idx → EReal) (a1 : (⟨2, ![8, 2560]⟩ : Shape).Idx → EReal)
    (a2 a3 : (⟨3, ![8, 2560, 2048]⟩ : Shape).Idx → EReal) (a4 : (⟨2, ![8, 2560]⟩ : Shape).Idx → EReal)
    (a5 : (⟨3, ![8, 2560, 2048]⟩ : Shape).Idx → EReal) (a6 : (⟨2, ![8, 2560]⟩ : Shape).Idx → EReal)
    (a7 a8 : (⟨2, ![8, 2048]⟩ : Shape).Idx → EReal) : Args where
  x b r d := a0 (ix3 b r d)
  xs b r := a1 (ix2 b r)
  f b r d := a2 (ix3 b r d)
  dy b r d := a3 (ix3 b r d)
  dys b r := a4 (ix2 b r)
  dh b r d := a5 (ix3 b r d)
  dhs b r := a6 (ix2 b r)
  ms b d := a7 (ix2 b d)
  mh b d := a8 (ix2 b d)

end Cert.Spec
-- ==== Proof.Quant.lean ====
/- The kernel finds the exponent of a row's scale by a binary search over the f32 exponent field; this module shows
   that what it finds is the scale of Spec.lean. -/
module
public import proofs.«01_k».proof.Proof.Spec
public import Idealize.ShloMosaic.Lib.Pointwise
@[expose] public section
set_option maxRecDepth 16384
noncomputable section
namespace Cert.Quant
open Idealize.ShloMosaic Cert.Spec

/-- The extended real of the f32 word with exponent field `n` and nothing else. -/
def T (n : ℕ) : EReal := Ideal.ofBits .f32 (BitVec.ofNat 32 n <<< 23)

theorem fields : ∀ n : Fin 256,
    ((BitVec.ofNat 32 n.val <<< 23 : BitVec 32).extractLsb' 31 1 == 1#1) = false
    ∧ ((BitVec.ofNat 32 n.val <<< 23 : BitVec 32).extractLsb' 23 8).toNat = n.val
    ∧ ((BitVec.ofNat 32 n.val <<< 23 : BitVec 32).extractLsb' 0 23).toNat = 0 := by decide +kernel

/-- An f32 word with sign clear, exponent field `n` and fraction zero. -/
theorem ieee_eq (w : BitVec 32) (n : ℕ) (h1 : (w.extractLsb' 31 1 == 1#1) = false) (h2 : (w.extractLsb' 23 8).toNat = n)
    (h3 : (w.extractLsb' 0 23).toNat = 0) :
    Ideal.ieee 8 23 w = if n = 255 then ⊤ else if n = 0 then 0 else pow2 ((n : ℤ) - 127) := by
  unfold Ideal.ieee
  simp only [Nat.reduceAdd, h1, h2, h3]
  by_cases a : n = 255
  · subst a; norm_num
  · by_cases b : n = 0
    · subst b; norm_num
    · simp only [Nat.reducePow, Nat.reduceSub, a, b, if_false, Bool.false_eq_true]
      unfold pow2
      congr 1
      norm_num
      rw [show (8388608 : ℝ) = (2 : ℝ) ^ (23 : ℤ) by norm_num, ← zpow_add₀ (by norm_num)]
      congr 1; ring

/-- `T` on the exponent fields. -/
theorem T_eq (n : ℕ) (hn : n < 256) : T n = if n = 255 then ⊤ else if n = 0 then 0 else pow2 ((n : ℤ) - 127) := by
  obtain ⟨h1, h2, h3⟩ := fields ⟨n, hn⟩
  exact ieee_eq _ n h1 h2 h3

theorem pow2_mono {a b : ℤ} (h : a ≤ b) : pow2 a ≤ pow2 b :=
  EReal.coe_le_coe_iff.mpr (zpow_le_zpow_right₀ (by norm_num) h)

theorem pow2_pos (a : ℤ) : 0 < pow2 a := EReal.coe_pos.mpr (by positivity)

theorem T_mid (n : ℕ) (h1 : 1 ≤ n) (h2 : n ≤ 254) : T n = pow2 ((n : ℤ) - 127) := by
  rw [T_eq n (by omega), if_neg (by omega), if_neg (by omega)]

theorem T_mono {a b : ℕ} (h : a ≤ b) (hb : b < 256) : T a ≤ T b := by
  rw [T_eq a (by omega), T_eq b hb]
  by_cases hb' : b = 255
  · simp [hb']
  · rw [if_neg hb', if_neg (show ¬ a = 255 by omega)]
    by_cases ha : a = 0
    · rw [if_pos ha]
      split
      · exact le_rfl
      · exact (pow2_pos _).le
    · rw [if_neg ha, if_neg (by omega)]
      exact pow2_mono (by omega)

/-- One step of the search: keep the candidate `n + b` where its power of two is at most `y`. -/
def pick (y : EReal) (b n : BitVec 32) : BitVec 32 :=
  Scalar.select (Ideal.cmp .oge y (Ideal.ofBits .f32 (IntOp.shli .vector (IntOp.addi n b) 23#32))) (IntOp.addi n b) n

theorem pick_eq (y : EReal) (b n : ℕ) :
    pick y (BitVec.ofNat 32 b) (BitVec.ofNat 32 n) = BitVec.ofNat 32 (if T (n + b) ≤ y then n + b else n) := by
  have e : IntOp.addi (BitVec.ofNat 32 n) (BitVec.ofNat 32 b) = BitVec.ofNat 32 (n + b) := by
    simp [IntOp.addi, BitVec.ofNat_add]
  have e2 : IntOp.shli .vector (BitVec.ofNat 32 (n + b)) 23#32 = BitVec.ofNat 32 (n + b) <<< 23 := rfl
  unfold pick
  rw [e, e2]
  by_cases h : T (n + b) ≤ y
  · rw [if_pos h]
    have h' : Ideal.ofBits .f32 (BitVec.ofNat 32 (n + b) <<< 23) ≤ y := h
    simp [Scalar.select, Ideal.cmp, h']
  · rw [if_neg h]
    have h' : ¬ Ideal.ofBits .f32 (BitVec.ofNat 32 (n + b) <<< 23) ≤ y := h
    simp [Scalar.select, Ideal.cmp, h']

/-- `n` is at most `255`, its power is at most `y`, and the answer lies below `n + b`. -/
def Near (y : EReal) (b : ℕ) (w : BitVec 32) : Prop :=
  ∃ n : ℕ, w = BitVec.ofNat 32 n ∧ n + b ≤ 256 ∧ T n ≤ y ∧ (n + b = 256 ∨ y < T (n + b))

theorem Near.step {y : EReal} {b : ℕ} {w : BitVec 32} (h : Near y (b + b) w) :
    Near y b (pick y (BitVec.ofNat 32 b) w) := by
  obtain ⟨n, rfl, h1, h2, h3⟩ := h
  rw [pick_eq]
  by_cases c : T (n + b) ≤ y
  · rw [if_pos c]
    exact ⟨n + b, rfl, by omega, c, by rw [show n + b + b = n + (b + b) by omega]; exact h3⟩
  · rw [if_neg c]
    exact ⟨n, rfl, by omega, h2, .inr (not_le.mp c)⟩

/-- The upper half of the search, and the whole of it. -/
def search4 (y : EReal) : BitVec 32 := pick y 16#32 (pick y 32#32 (pick y 64#32 (pick y 128#32 0#32)))
def search (y : EReal) : BitVec 32 := pick y 1#32 (pick y 2#32 (pick y 4#32 (pick y 8#32 (search4 y))))

theorem search_near {y : EReal} (hy : 0 ≤ y) : Near y 1 (search y) := by
  have h0 : Near y (128 + 128) 0#32 := ⟨0, rfl, by omega, by rw [T_eq 0 (by omega)]; simpa using hy, .inl rfl⟩
  exact Near.step (b := 1) (Near.step (b := 2) (Near.step (b := 4) (Near.step (b := 8)
    (Near.step (b := 16) (Near.step (b := 32) (Near.step (b := 64) (Near.step (b := 128) h0)))))))

/-- The least power of two above `y` in the stated range, by the search's answer. -/
theorem fold_eq (y : EReal) (n : ℕ) (hn : n ≤ 246) (h1 : n < 246 → y < pow2 ((n : ℤ) - 126))
    (h2 : ∀ k < n, pow2 ((k : ℤ) - 126) ≤ y) :
    (Finset.univ.fold min ⊤ fun k : Fin 247 =>
      if y < pow2 (((k : ℕ) : ℤ) - 126) then pow2 (((k : ℕ) : ℤ) - 126) else pow2 120) = pow2 ((n : ℤ) - 126) := by
  apply le_antisymm
  · rw [Finset.fold_min_le]
    right
    refine ⟨⟨n, by omega⟩, Finset.mem_univ _, ?_⟩
    show (if _ then _ else _) ≤ _
    by_cases e : n < 246
    · rw [if_pos (h1 e)]
    · obtain rfl : n = 246 := by omega
      split
      · exact le_rfl
      · exact pow2_mono (by norm_num)
  · rw [Finset.le_fold_min]
    refine ⟨le_top, fun k _ => ?_⟩
    split
    · rename_i hk
      apply pow2_mono
      have : ¬ k.val < n := fun hlt => absurd hk (not_lt.mpr (h2 _ hlt))
      omega
    · exact pow2_mono (by omega)

theorem word1 : ∀ n : Fin 256, IntOp.minsi (BitVec.ofNat 32 n.val) 246#32 = BitVec.ofNat 32 (min n.val 246) := by
  decide +kernel
theorem word2 : ∀ n : Fin 247, IntOp.shli .vector (IntOp.addi (IntOp.subi (BitVec.ofNat 32 n.val) 126#32) 127#32) 23#32
    = BitVec.ofNat 32 (n.val + 1) <<< 23 := by decide +kernel
theorem word3 : ∀ n : Fin 247, IntOp.shli .vector (IntOp.addi (IntOp.subi 0#32 (IntOp.subi (BitVec.ofNat 32 n.val) 126#32)) 127#32) 23#32
    = BitVec.ofNat 32 (253 - n.val) <<< 23 := by decide +kernel

/-- The exponent the kernel takes from its search. -/
def expo (y : EReal) : BitVec 32 :=
  Scalar.select (Ideal.cmp .oeq y 0) 0#32 (IntOp.subi (IntOp.minsi (search y) 246#32) 126#32)

/-- The constant nearest 1/448 is a positive real. -/
theorem cpos : ∃ c : ℝ, 0 < c ∧ Ideal.ofBits .f32 0x3B124925#32 = (c : EReal) := by
  refine ⟨_, ?_, by
    simp [Ideal.ofBits, Ideal.ieee, -EReal.coe_mul]
    rfl⟩
  positivity

/-- At a largest magnitude `a ≥ 0` the kernel's exponent gives the scale, and its negative the scale's reciprocal. -/
theorem expo_eq (a : EReal) (ha : 0 ≤ a) :
    Ideal.ofBits .f32 (IntOp.shli .vector (IntOp.addi (expo (a * Ideal.ofBits .f32 0x3B124925#32)) 127#32) 23#32) = scale a
    ∧ Ideal.ofBits .f32 (IntOp.shli .vector (IntOp.addi (IntOp.subi 0#32 (expo (a * Ideal.ofBits .f32 0x3B124925#32))) 127#32) 23#32)
      = Ideal.div 1 (scale a) := by
  obtain ⟨c, hc, e⟩ := cpos
  have hz : a * Ideal.ofBits .f32 0x3B124925#32 = 0 ↔ a = 0 := by
    rw [e, mul_eq_zero]
    constructor
    · rintro (h | h)
      · exact h
      · exact absurd (EReal.coe_eq_zero.mp h) hc.ne'
    · exact .inl
  have hy : 0 ≤ a * Ideal.ofBits .f32 0x3B124925#32 := by
    rw [e]; exact mul_nonneg ha (EReal.coe_nonneg.mpr hc.le)
  unfold scale
  generalize a * Ideal.ofBits .f32 0x3B124925#32 = y at hz hy ⊢
  by_cases a0 : a = 0
  · have y0 := hz.mpr a0
    rw [if_pos a0]
    have e0 : expo y = 0#32 := by simp [expo, y0, Scalar.select, Ideal.cmp]
    rw [e0]
    have w : IntOp.shli .vector (IntOp.addi 0#32 127#32) 23#32 = 0x3F800000#32 := by decide
    have w' : IntOp.shli .vector (IntOp.addi (IntOp.subi 0#32 0#32) 127#32) 23#32 = 0x3F800000#32 := by decide
    rw [w, w', Ideal.ofBits_one_f32]
    refine ⟨rfl, ?_⟩
    simp [Ideal.div]
  · have y0 : ¬ y = 0 := fun h => a0 (hz.mp h)
    rw [if_neg a0]
    obtain ⟨n, hw, h1, h2, h3⟩ := search_near hy
    have e0 : expo y = IntOp.subi (BitVec.ofNat 32 (min n 246)) 126#32 := by
      have := word1 ⟨n, by omega⟩
      simp only at this
      simp only [expo, hw, this]
      simp [y0, Scalar.select, Ideal.cmp]
    have hm : min n 246 ≤ 246 := Nat.min_le_right _ _
    have f := fold_eq y (min n 246) hm
      (fun hlt => by
        have : min n 246 = n := by omega
        rw [this]
        rcases h3 with h3 | h3
        · omega
        · rw [T_mid (n + 1) (by omega) (by omega)] at h3
          convert h3 using 2; push_cast; ring)
      (fun k hk => by
        have := (T_mono (a := k + 1) (b := n) (by omega) (by omega)).trans h2
        rw [T_mid (k + 1) (by omega) (by omega)] at this
        convert this using 2; push_cast; ring)
    rw [f, e0]
    have w2 := word2 ⟨min n 246, by omega⟩
    have w3 := word3 ⟨min n 246, by omega⟩
    simp only at w2 w3
    rw [w2, w3]
    have t2 := T_mid (min n 246 + 1) (by omega) (by omega)
    have t3 := T_mid (253 - min n 246) (by omega) (by omega)
    unfold T at t2 t3
    rw [t2, t3]
    constructor
    · congr 1; push_cast; ring
    · unfold Ideal.div
      rw [if_neg (pow2_pos _).ne', one_mul]
      unfold pow2
      rw [← EReal.coe_inv, ← zpow_neg]
      congr 2
      omega

/-- A largest magnitude is not negative. -/
theorem amax_nonneg (h : Row) : 0 ≤ amax h := by
  unfold amax
  rw [Finset.le_fold_max]
  right
  refine ⟨0, Finset.mem_univ _, ?_⟩
  rcases le_total 0 (h 0) with c | c
  · exact le_max_of_le_left c
  · exact le_max_of_le_right (EReal.neg_nonneg.mpr c)

end Cert.Quant
-- ==== Proof.KernelRows.lean ====
/- What the kernel's vector expressions hold at an index, in the row functions of Spec.lean. -/
module
public import proofs.«01_k».proof.Proof.Quant
public import proofs.«01_k».proof.Proof.Gen.KernelIdeal.Skeleton
public import Idealize.ShloMosaic.Lib.Pointwise
@[expose] public section
set_option maxRecDepth 16384
noncomputable section
namespace Cert.KernelIdeal.Body
open Cert.KernelIdeal Cert.KernelIdeal.Gen Idealize.ShloMosaic Cert.Spec Cert.Quant

/-- A row of codes times its scale, as the kernel reads a group of 32 rows. -/
def grow (v : S1x32x2048.Idx → EReal) (s : S1x32x1.Idx → EReal) (r : Fin 32) : Row :=
  fun d => v (ix3 0 r d) * s (ix3 0 r 0)

/-- The only row of a one-row vector. -/
def row0 (v : S1x2048.Idx → EReal) : Row := fun d => v (ix2 0 d)

section
variable (s t u : Vec Ideal S1x32x1 .f32) (x : Vec Ideal S1x32x2048 .fp8e4m3)
  (y z : Vec Ideal S1x32x2048 .fp8e5m2) (f : Vec Ideal S1x32x2048 .bf16) (o m : FVec Ideal S1x2048 .f32)
  (r : Fin 32) (d : Fin 2048)

theorem pay4_at : k0_pay4 s x (ix2 r d) = cent (grow x s r) d := by
  pointwise [k0_pay4]; rfl

theorem pay5_at (c : Fin 1) : k0_pay5 s x (ix2 r c) = rstd (grow x s r) := by
  obtain rfl : c = 0 := Subsingleton.elim _ _
  pointwise [k0_pay5]
  simp only [pay4_at]; rfl

theorem pay6_at : k0_pay6 s x (ix2 r d) = xhat (grow x s r) d := by
  pointwise [k0_pay6]
  rw [pay4_at, pay5_at]; rfl

theorem pay7_at : k0_pay7 o m s x (ix2 r d) = hrow (grow x s r) (row0 o) (row0 m) d := by
  pointwise [k0_pay7]
  rw [pay6_at]; rfl

theorem pay8_at (c : Fin 1) : k0_pay8 o m s x (ix2 r c) = amax (hrow (grow x s r) (row0 o) (row0 m)) := by
  obtain rfl : c = 0 := Subsingleton.elim _ _
  pointwise [k0_pay8]
  simp only [pay7_at]; rfl

theorem pay9_at (a : FVec Ideal S32x1 .f32) (l : Fin 128) :
    k0_pay9 a (ix2 r l) = a (ix2 r 0) * Ideal.ofBits .f32 0x3B124925#32 := by
  pointwise [k0_pay9]

/-- One step of the search on a whole tile. -/
def pickv (y : FVec Ideal S32x128 .f32) (b : BitVec 32) (n : IVec S32x128 32) : IVec S32x128 32 :=
  select (cmpf .oge y (bitcastToFloat .f32 (shli (addi n (broadcast S32x128 b)) (broadcast S32x128 23#32))))
    (addi n (broadcast S32x128 b)) n

theorem pickv_at (y : FVec Ideal S32x128 .f32) (b : BitVec 32) (n : IVec S32x128 32) (j : S32x128.Idx) :
    pickv y b n j = pick (y j) b (n j) := rfl

theorem pay10_eq (a : FVec Ideal S32x1 .f32) :
    k0_pay10 a = pickv (k0_pay9 a) 16#32 (pickv (k0_pay9 a) 32#32 (pickv (k0_pay9 a) 64#32
      (pickv (k0_pay9 a) 128#32 (broadcast S32x128 0#32)))) := by
  simp only [k0_pay10, pickv]

theorem pay12_eq (y : FVec Ideal S32x128 .f32) (n : IVec S32x128 32) :
    k0_pay12 y n (shli (addi n (broadcast S32x128 8#32)) (broadcast S32x128 23#32))
      = select (cmpf .oeq y (broadcast S32x128 (Scalar.ofBits .f32 0x00000000#32))) (broadcast S32x128 0#32)
        (subi (minsi (pickv y 1#32 (pickv y 2#32 (pickv y 4#32 (pickv y 8#32 n)))) (broadcast S32x128 246#32))
          (broadcast S32x128 126#32)) := by
  simp only [k0_pay12, pickv]

/-- The search's exponent. -/
theorem pay12_at (a : FVec Ideal S32x1 .f32) (l : Fin 128) :
    k0_pay12 (k0_pay9 a) (k0_pay10 a) (k0_pay11 a) (ix2 r l)
      = expo (a (ix2 r 0) * Ideal.ofBits .f32 0x3B124925#32) := by
  have e : k0_pay11 a = shli (addi (k0_pay10 a) (broadcast S32x128 8#32)) (broadcast S32x128 23#32) := by
    simp only [k0_pay11]
  rw [e, pay12_eq, pay10_eq]
  have sel : ∀ (c : IVec S32x128 1) (p q : IVec S32x128 32) (j : S32x128.Idx),
    select c p q j = Scalar.select (c j) (p j) (q j) := fun _ _ _ _ => rfl
  have sub : ∀ (p : IVec S32x128 32) (j : S32x128.Idx),
    subi (minsi p (broadcast S32x128 246#32)) (broadcast S32x128 126#32) j
      = IntOp.subi (IntOp.minsi (p j) 246#32) 126#32 := fun _ _ => rfl
  have cmp : ∀ (y : FVec Ideal S32x128 .f32) (j : S32x128.Idx),
    cmpf .oeq y (broadcast S32x128 (Scalar.ofBits .f32 0x00000000#32)) j
      = Ideal.cmp .oeq (y j) (Ideal.ofBits .f32 0x00000000#32) := fun _ _ => rfl
  have br : ∀ (w : BitVec 32) (j : S32x128.Idx), broadcast S32x128 w j = w := fun _ _ => rfl
  rw [sel, sub, cmp, br, Ideal.ofBits_zero_f32]
  simp only [pickv_at, br, pay9_at]
  unfold expo search search4
  rfl

theorem pay13_at (a : FVec Ideal S32x1 .f32) (l : Fin 128) :
    k0_pay13 (k0_pay9 a) (k0_pay10 a) (k0_pay11 a) (ix2 r l)
      = IntOp.addi (IntOp.subi 0#32 (expo (a (ix2 r 0) * Ideal.ofBits .f32 0x3B124925#32))) 127#32 := by
  rw [← pay12_at]; rfl

/-- The stored scale is the row's scale, in every lane. -/
theorem pay15_at (l : Fin 128) :
    k0_pay15 (F := Ideal) (k0_pay12 (k0_pay9 (k0_pay8 o m s x)) (k0_pay10 (k0_pay8 o m s x)) (k0_pay11 (k0_pay8 o m s x))) (ix2 r l)
      = scale (amax (hrow (grow x s r) (row0 o) (row0 m))) := by
  pointwise [k0_pay15]
  rw [pay12_at, pay8_at]
  exact (expo_eq _ (amax_nonneg _)).1

/-- The stored code is the row's code. -/
theorem pay14_at :
    k0_pay14 (k0_pay7 o m s x) (k0_pay13 (k0_pay9 (k0_pay8 o m s x)) (k0_pay10 (k0_pay8 o m s x)) (k0_pay11 (k0_pay8 o m s x))) (ix3 0 r d)
      = code (hrow (grow x s r) (row0 o) (row0 m) d) (scale (amax (hrow (grow x s r) (row0 o) (row0 m)))) := by
  pointwise [k0_pay14]
  rw [pay13_at, pay8_at, pay7_at, (expo_eq _ (amax_nonneg _)).2]
  rfl

theorem pay16_at : k0_pay16 (k0_pay3 t) y (ix2 r d) = grow y t r d := by
  pointwise [k0_pay16, k0_pay3]; rfl

theorem pay17_at : k0_pay17 (k0_pay2 t) y (ix2 r d) = grow y t r d := by
  pointwise [k0_pay17, k0_pay2]; rfl

theorem pay18_at : k0_pay18 f (ix2 r d) = f (ix3 0 r d) := by
  pointwise [k0_pay18]

/-- The stored input gradient is the row's. -/
theorem pay48_at :
    k0_pay48 o (k0_pay5 s x) (k0_pay6 s x) (k0_pay16 (k0_pay3 t) y) (k0_pay17 (k0_pay2 u) z) (ix3 0 r d)
      = dxrow (grow x s r) (grow z u r) (grow y t r) (row0 o) d := by
  pointwise [k0_pay48]
  simp only [pay5_at, pay6_at, pay16_at, pay17_at]; rfl

variable (acc : FVec Ideal S8x2048 .f32) (q : Fin 8)

/-- Row `q` of a folded group of 32 rows gathers the rows `q`, `q+8`, `q+16`, `q+24`. -/
def fold32 (g : Fin 32 → Row) (q : Fin 8) : Row := fun d => ∑ i : Fin 4, g ⟨i.val * 8 + q.val, by omega⟩ d

theorem pay19_at : k0_pay19 acc (k0_pay3 t) y (ix2 q d) = acc (ix2 q d) + fold32 (grow y t) q d := by
  pointwise [k0_pay19]
  simp only [pay16_at]; rfl

theorem pay46_at : k0_pay46 acc (k0_pay6 s x) (k0_pay16 (k0_pay3 t) y) (ix2 q d)
    = acc (ix2 q d) + fold32 (fun r d => grow y t r d * xhat (grow x s r) d) q d := by
  pointwise [k0_pay46]
  simp only [pay16_at, pay6_at]; rfl

theorem pay47_at : k0_pay47 acc (k0_pay17 (k0_pay2 u) z) (k0_pay18 f) (ix2 q d)
    = acc (ix2 q d) + fold32 (fun r d => grow z u r d * f (ix3 0 r d)) q d := by
  pointwise [k0_pay47]
  simp only [pay17_at, pay18_at]; rfl

end

/-- A sum over the eight batches that keeps only batch `b` is the entry of batch `b`. -/
theorem pick_sum (b : Fin 8) (v : Fin 8 → EReal) :
    (∑ x : Fin 8, Scalar.select (IntOp.cmpi .eq (BitVec.ofNat 32 x.val) (BitVec.ofNat 32 b.val)) (v x) 0) = v b := by
  rw [Finset.sum_eq_single b]
  · simp [Scalar.select, IntOp.cmpi]
  · intro x _ hx
    have : (IntOp.cmpi .eq (BitVec.ofNat 32 x.val) (BitVec.ofNat 32 b.val)) ≠ 1#1 := by
      revert hx; revert x b; decide
    simp only [Scalar.select]; exact if_neg this
  · simp

section
variable (i : grid0.Coords)

theorem pay38_at (v : Vec Ideal S8x2048 .f32) (d : Fin 2048) : k0_pay38 i v (ix2 0 d) = 1 + v (ix2 (i 0) d) := by
  pointwise [k0_pay38]
  rw [pick_sum (i 0) (fun x => v (ix2 x d))]

theorem pay39_at (v : Vec Ideal S8x2048 .f32) (d : Fin 2048) : k0_pay39 i v (ix2 0 d) = v (ix2 (i 0) d) := by
  pointwise [k0_pay39]
  rw [pick_sum (i 0) (fun x => v (ix2 x d))]

variable (v : Vec Ideal S8x128 .f32) (l n : Fin 128)

/-- A column tile holds the batch's row scales, one a row, in every lane. -/
theorem pay42_at : k0_pay42 (k0_pay41 i v) (ix3 0 l n) = v (ix2 (i 0) l) := by
  pointwise [k0_pay42, k0_pay41]
  rw [pick_sum (i 0) (fun x => v (ix2 x l))]

theorem pay43_at : k0_pay43 (BitVec.ofNat 32 (i 0).val) v (ix3 0 l n) = v (ix2 (i 0) l) := by
  pointwise [k0_pay43]
  rw [pick_sum (i 0) (fun x => v (ix2 x l))]

theorem pay44_at : k0_pay44 (BitVec.ofNat 32 (i 0).val) v (ix3 0 l n) = v (ix2 (i 0) l) := by
  pointwise [k0_pay44]
  rw [pick_sum (i 0) (fun x => v (ix2 x l))]

theorem pay61_eq (a : BitVec 32) : k0_pay61 a v = k0_pay43 a v := rfl
theorem pay63_eq (a : BitVec 32) : k0_pay63 (k0_pay62 a v) = k0_pay43 a v := rfl
theorem pay64_eq (a : BitVec 32) : k0_pay64 a v = k0_pay44 a v := rfl
theorem pay45_at (q : Fin 8) (d : Fin 2048) : k0_pay45 (F := Ideal) (ix2 q d) = 0 := by
  pointwise [k0_pay45]
theorem pay65_eq : k0_pay65 (F := Ideal) = k0_pay45 := rfl
theorem pay40_at (j : Fin 3) (d : Fin 2048) : k0_pay40 (F := Ideal) (ix3 0 j d) = 0 := by
  pointwise [k0_pay40]

variable (a : FVec Ideal S8x2048 .f32) (w : Vec Ideal S1x1x2048 .f32) (d : Fin 2048)

/-- A block's gradient is the sum of the eight accumulated rows. -/
theorem pay53_at : k0_pay53 a (ix4 0 0 0 d) = ∑ q : Fin 8, a (ix2 q d) := by
  pointwise [k0_pay53, k0_pay52]
theorem pay54_at : k0_pay54 a w (ix3 0 0 d) = w (ix3 0 0 d) + ∑ q : Fin 8, a (ix2 q d) := by
  pointwise [k0_pay54, k0_pay52]
theorem pay56_eq : k0_pay56 a = k0_pay53 a := rfl
theorem pay57_eq : k0_pay57 a w = k0_pay54 a w := rfl
theorem pay59_eq : k0_pay59 (k0_pay58 a) = k0_pay53 a := rfl
theorem pay60_eq : k0_pay60 (k0_pay58 a) w = k0_pay54 a w := rfl
theorem pay72_eq : k0_pay72 (k0_pay71 a) = k0_pay53 a := rfl
theorem pay73_eq : k0_pay73 (k0_pay71 a) w = k0_pay54 a w := rfl
theorem pay75_eq : k0_pay75 a = k0_pay53 a := rfl
theorem pay76_eq : k0_pay76 a w = k0_pay54 a w := rfl
theorem pay78_eq : k0_pay78 a = k0_pay53 a := rfl
theorem pay79_eq : k0_pay1 (k0_pay79 a w) = k0_pay54 a w := rfl

end
end Cert.KernelIdeal.Body
-- ==== Proof.BlockRows.lean ====
/- One grid point's staged block of 256 rows: what the outputs' blocks hold, row by row, in the row functions of
   Spec.lean. -/
module
public import proofs.«01_k».proof.Proof.KernelRows
@[expose] public section
set_option maxRecDepth 16384
noncomputable section
namespace Cert.KernelIdeal.Body
open Cert.KernelIdeal Cert.KernelIdeal.Gen Idealize.ShloMosaic Cert.Spec Cert.Quant

/-- Row `R` of a staged block of codes, times its scale. -/
def rowof (x : S1x256x2048.Idx → EReal) (C : Fin 256 → EReal) (R : Fin 256) : Row := fun d => x (ix3 0 R d) * C R

section
variable (x0 x1 x2 x3 : S1x256x2048.Idx → EReal) (C : Fin 3 → Fin 256 → EReal) (o m : Row)

/-- The block of the input gradient. -/
def bdx : S1x256x2048.Idx → EReal := fun j =>
  dxrow (rowof x0 (C 0) (j 1)) (rowof x1 (C 1) (j 1)) (rowof x2 (C 2) (j 1)) o (j 2)

/-- The modulated row, its scale, and the block of codes. -/
def bh (R : Fin 256) : Row := hrow (rowof x0 (C 0) R) o m
def bhs (R : Fin 256) : EReal := scale (amax (bh x0 C o m R))
def bhq : S1x256x2048.Idx → EReal := fun j => code (bh x0 C o m (j 1) (j 2)) (bhs x0 C o m (j 1))

/-- What one row gives to the three modulation gradients. -/
def bdm (q : Fin 3) (R : Fin 256) : Row := fun d =>
  if q.val = 0 then rowof x2 (C 2) R d
  else if q.val = 1 then rowof x2 (C 2) R d * xhat (rowof x0 (C 0) R) d
  else rowof x1 (C 1) R d * x3 (ix3 0 R d)

/-- The block of block gradients. -/
def bblk : S1x2x3x2048.Idx → EReal := fun j =>
  ∑ l : Fin 128, bdm x0 x1 x2 x3 C (j 2) ⟨(j 1).val * 128 + l.val, by have h : (j 1).val < 2 := (j 1).isLt; omega⟩ (j 3)
end

/-- Row `l` of the block's first 128 rows, and of its last 128. -/
def lo (l : Fin 128) : Fin 256 := ⟨l.val, by omega⟩
def hi (l : Fin 128) : Fin 256 := ⟨128 + l.val, by omega⟩

/-- The sum over the first 128 rows, and over the last 128, of what they give to the modulation gradients. -/
def half0 (x0 x1 x2 x3 : S1x256x2048.Idx → EReal) (C : Fin 3 → Fin 256 → EReal) (q : Fin 3) : Row := fun d =>
  ∑ l : Fin 128, bdm x0 x1 x2 x3 C q (lo l) d
def half1 (x0 x1 x2 x3 : S1x256x2048.Idx → EReal) (C : Fin 3 → Fin 256 → EReal) (q : Fin 3) : Row := fun d =>
  ∑ l : Fin 128, bdm x0 x1 x2 x3 C q (hi l) d

/-- Four groups of 32 rows, each folded to eight, and the eight rows summed: the sum over 128 rows. -/
theorem sum128 (g : Fin 128 → EReal) :
    (∑ q : Fin 8, (0 + (∑ i : Fin 4, g ⟨32 * 0 + (i.val * 8 + q.val), by omega⟩) + (∑ i : Fin 4, g ⟨32 * 1 + (i.val * 8 + q.val), by omega⟩)
      + (∑ i : Fin 4, g ⟨32 * 2 + (i.val * 8 + q.val), by omega⟩) + (∑ i : Fin 4, g ⟨32 * 3 + (i.val * 8 + q.val), by omega⟩)))
      = ∑ l, g l := by
  have e : (∑ l, g l) = ∑ k : Fin 4, ∑ i : Fin 4, ∑ q : Fin 8, g ⟨32 * k.val + (i.val * 8 + q.val), by omega⟩ := by
    rw [← (finProdFinEquiv (m := 16) (n := 8)).sum_comp, Fintype.sum_prod_type,
      ← (finProdFinEquiv (m := 4) (n := 4)).sum_comp, Fintype.sum_prod_type]
    refine Finset.sum_congr rfl fun k _ => Finset.sum_congr rfl fun i _ => Finset.sum_congr rfl fun q _ => ?_
    congr 1
    apply Fin.ext
    simp [finProdFinEquiv]
    omega
  rw [e]
  simp only [zero_add, Finset.sum_add_distrib]
  rw [Fin.sum_univ_four]
  congr 1
  · congr 1
    · congr 1
      · rw [Finset.sum_comm]; rfl
      · rw [Finset.sum_comm]; rfl
    · rw [Finset.sum_comm]; rfl
  · rw [Finset.sum_comm]; rfl

end Cert.KernelIdeal.Body
-- ==== Proof.Columns.lean ====
/- What one grid point loads of the arrays it keeps whole: its batch row, and its 256 rows' scales, which the kernel
   copies into a scratch buffer block by block. -/
module
public import proofs.«01_k».proof.Proof.BlockRows
public import proofs.«01_k».proof.Proof.Scaffold
public import Idealize.ShloMosaic.Lib.WritesUnit
@[expose] public section
set_option maxRecDepth 16384
noncomputable section
namespace Cert.KernelIdeal.Body
open Cert.KernelIdeal Cert.KernelIdeal.Gen Idealize.ShloMosaic Idealize.ShloMosaic.TcCoe
open Idealize.ShloMosaic.Tactic Cert.Spec Cert.Quant

theorem i1_lt (i : grid0.Coords) : (i 1).val < 10 := (i 1).isLt

/-- The array row of row `R` of the point's block. -/
def lane (i : grid0.Coords) (R : Fin 256) : Fin 2560 := ⟨256 * (i 1).val + R.val, by have := i1_lt i; omega⟩

/-- The three scales of the block's rows. -/
def colsOf (i : grid0.Coords) (x4 x5 x6 : S8x2560.Idx → EReal) : Fin 3 → Fin 256 → EReal := fun j R =>
  if j.val = 0 then x4 (ix2 (i 0) (lane i R)) else if j.val = 1 then x5 (ix2 (i 0) (lane i R)) else x6 (ix2 (i 0) (lane i R))

/-- One plus the modulation scale, and the modulation shift, of the point's batch. -/
def orow (i : grid0.Coords) (x7 : S8x2048.Idx → EReal) : Row := fun d => 1 + x7 (ix2 (i 0) d)
def mrow (i : grid0.Coords) (x8 : S8x2048.Idx → EReal) : Row := fun d => x8 (ix2 (i 0) d)

theorem off1_0 (i : grid0.Coords) : k0_off1 i 0#32 = ![0, 256 * (i 1).val] := by
  have h : ∀ n : Fin 10, (Scalar.indexCast (Scalar.addi (Scalar.muli (BitVec.ofNat 32 n.val) 256#32) 0#32)).toNat = 256 * n.val := by
    decide +kernel
  exact congrArg (fun z => (![0, z] : Fin 2 → ℕ)) (h (i 1))
theorem off1_1 (i : grid0.Coords) : k0_off1 i 128#32 = ![0, 256 * (i 1).val + 128] := by
  have h : ∀ n : Fin 10, (Scalar.indexCast (Scalar.addi (Scalar.muli (BitVec.ofNat 32 n.val) 256#32) 128#32)).toNat = 256 * n.val + 128 := by
    decide +kernel
  exact congrArg (fun z => (![0, z] : Fin 2 → ℕ)) (h (i 1))

/-- The lanes of the point's first 128 rows, and of its last 128. -/
abbrev RL0 (i : grid0.Coords) : Rect S8x2560 := Rect.unit (s := S8x2560) (k0_off1 i 0#32) S8x128.size (k0_off1_inb i 0)
abbrev RL1 (i : grid0.Coords) : Rect S8x2560 := Rect.unit (s := S8x2560) (k0_off1 i 128#32) S8x128.size (k0_off1_inb i 1)

theorem embL0 (i : grid0.Coords) (b : Fin 8) (l : Fin 128) : (RL0 i).emb (ix2 b l) = ix2 b (lane i (lo l)) := by
  have h := off1_0 i
  funext a; apply Fin.ext
  match a with
  | ⟨0, _⟩ => show k0_off1 i 0#32 0 + 1 * b.val = b.val; rw [h]; show 0 + 1 * b.val = _; omega
  | ⟨1, _⟩ => show k0_off1 i 0#32 1 + 1 * l.val = 256 * (i 1).val + l.val; rw [h]; show 256 * (i 1).val + 1 * l.val = _; omega
theorem embL1 (i : grid0.Coords) (b : Fin 8) (l : Fin 128) : (RL1 i).emb (ix2 b l) = ix2 b (lane i (hi l)) := by
  have h := off1_1 i
  funext a; apply Fin.ext
  match a with
  | ⟨0, _⟩ => show k0_off1 i 128#32 0 + 1 * b.val = b.val; rw [h]; show 0 + 1 * b.val = _; omega
  | ⟨1, _⟩ => show k0_off1 i 128#32 1 + 1 * l.val = 256 * (i 1).val + (128 + l.val); rw [h]; show 256 * (i 1).val + 128 + 1 * l.val = _; omega

section
variable (i : grid0.Coords) (arg : Memref sig .tc .vmem S8x2560 .f32) (harg : arg.IsWhole) (x : Vec Ideal S8x2560 .f32)
  (b : Fin 8) (l : Fin 128)
theorem ld0 : View.readAt (Elt Ideal) arg.view (RL0 i).toLoadRect (harg.unread x) (ix2 b l) = x (ix2 b (lane i (lo l))) := by
  show arg.view.read (Elt Ideal) (harg.unread x) ((RL0 i).emb (ix2 b l)) = _
  rw [harg.read_unread, embL0]
theorem ld1 : View.readAt (Elt Ideal) arg.view (RL1 i).toLoadRect (harg.unread x) (ix2 b l) = x (ix2 b (lane i (hi l))) := by
  show arg.view.read (Elt Ideal) (harg.unread x) ((RL1 i).emb (ix2 b l)) = _
  rw [harg.read_unread, embL1]
end

section
variable (i : grid0.Coords) (arg : Memref sig .tc .vmem S8x2048 .f32) (harg : arg.IsWhole) (x : Vec Ideal S8x2048 .f32)
  (inb : ∀ a, (![0, 0] : Fin 2 → ℕ) a + S8x2048.size a ≤ S8x2048.size a)
theorem ldw : View.readAt (Elt Ideal) arg.view (Rect.unit (s := S8x2048) ![0, 0] S8x2048.size inb).toLoadRect (harg.unread x) = x := by
  funext j
  obtain ⟨b, d, rfl⟩ := ex2 j
  show arg.view.read (Elt Ideal) (harg.unread x) ((Rect.unit (s := S8x2048) ![0, 0] S8x2048.size inb).emb (ix2 b d)) = _
  rw [harg.read_unread]
  congr 1
  funext a; apply Fin.ext
  match a with
  | ⟨0, _⟩ => show 0 + 1 * b.val = b.val; omega
  | ⟨1, _⟩ => show 0 + 1 * d.val = d.val; omega
theorem row_o : row0 (k0_pay38 i (View.readAt (Elt Ideal) arg.view (Rect.unit (s := S8x2048) ![0, 0] S8x2048.size inb).toLoadRect (harg.unread x))) = orow i x := by
  funext d
  rw [ldw]
  exact pay38_at i x d
theorem row_m : row0 (k0_pay39 i (View.readAt (Elt Ideal) arg.view (Rect.unit (s := S8x2048) ![0, 0] S8x2048.size inb).toLoadRect (harg.unread x))) = mrow i x := by
  funext d
  rw [ldw]
  exact pay39_at i x d
end

/-- Three planes written one after the other: each reads its own. -/
theorem planes {κ : Kind} {sp : Space} (v : View sig κ sp S3x128x128 .f32) (f : v.ty.Contents (Elt Ideal)) (w0 w1 w2 : S1x128x128.Idx → EReal)
    (i0 : ∀ a, (![0, 0, 0] : Fin 3 → ℕ) a + S1x128x128.size a ≤ S3x128x128.size a)
    (i1 : ∀ a, (![1, 0, 0] : Fin 3 → ℕ) a + S1x128x128.size a ≤ S3x128x128.size a)
    (i2 : ∀ a, (![2, 0, 0] : Fin 3 → ℕ) a + S1x128x128.size a ≤ S3x128x128.size a)
    (L : List (View.Piece (Elt Ideal) S3x128x128 .f32)) (j : Fin 3) (l n : Fin 128) :
    v.read (Elt Ideal) (v.writes (Elt Ideal) f (⟨Rect.unit (s := S3x128x128) ![2, 0, 0] S1x128x128.size i2, w2⟩
        :: ⟨Rect.unit (s := S3x128x128) ![1, 0, 0] S1x128x128.size i1, w1⟩ :: ⟨Rect.unit (s := S3x128x128) ![0, 0, 0] S1x128x128.size i0, w0⟩ :: L)) (ix3 j l n)
      = if j.val = 0 then w0 (ix3 0 l n) else if j.val = 1 then w1 (ix3 0 l n) else w2 (ix3 0 l n) := by
  match j with
  | ⟨0, _⟩ =>
    rw [View.read_writes_cons_unit_of_not_mem v f i2 w2 _ _ rfl 0 (Or.inl (by show 0 < 2; omega)),
      View.read_writes_cons_unit_of_not_mem v f i1 w1 _ _ rfl 0 (Or.inl (by show 0 < 1; omega)),
      View.read_writes_cons_unit_of_mem v f i0 w0 _ _ (ix3 0 l n) rfl]
    · rfl
    · intro a
      match a with
      | ⟨0, _⟩ => rfl
      | ⟨1, _⟩ => exact (Nat.zero_add _).symm
      | ⟨2, _⟩ => exact (Nat.zero_add _).symm
  | ⟨1, _⟩ =>
    rw [View.read_writes_cons_unit_of_not_mem v f i2 w2 _ _ rfl 0 (Or.inl (by show 1 < 2; omega)),
      View.read_writes_cons_unit_of_mem v f i1 w1 _ _ (ix3 0 l n) rfl]
    · rfl
    · intro a
      match a with
      | ⟨0, _⟩ => rfl
      | ⟨1, _⟩ => exact (Nat.zero_add _).symm
      | ⟨2, _⟩ => exact (Nat.zero_add _).symm
  | ⟨2, _⟩ =>
    rw [View.read_writes_cons_unit_of_mem v f i2 w2 _ _ (ix3 0 l n) rfl]
    · rfl
    · intro a
      match a with
      | ⟨0, _⟩ => rfl
      | ⟨1, _⟩ => exact (Nat.zero_add _).symm
      | ⟨2, _⟩ => exact (Nat.zero_add _).symm

section
variable (i : grid0.Coords) (arg6 : Memref sig .tc .vmem S8x2560 .f32) (harg6 : arg6.IsWhole)
  (arg7 : Memref sig .tc .vmem S8x2560 .f32) (harg7 : arg7.IsWhole) (arg8 : Memref sig .tc .vmem S8x2560 .f32) (harg8 : arg8.IsWhole)
  (x4 x5 x6 : Vec Ideal S8x2560 .f32) {κ : Kind} {sp : Space} (v : View sig κ sp S3x128x128 .f32) (f : v.ty.Contents (Elt Ideal))
  (i0 : ∀ a, (![0, 0, 0] : Fin 3 → ℕ) a + S1x128x128.size a ≤ S3x128x128.size a)
  (i1 : ∀ a, (![1, 0, 0] : Fin 3 → ℕ) a + S1x128x128.size a ≤ S3x128x128.size a)
  (i2 : ∀ a, (![2, 0, 0] : Fin 3 → ℕ) a + S1x128x128.size a ≤ S3x128x128.size a)
  (L : List (View.Piece (Elt Ideal) S3x128x128 .f32))

/-- The scratch planes hold the scales of the first 128 rows. -/
theorem cols0 (j : Fin 3) (l : Fin 128) :
    v.read (Elt Ideal) (v.writes (Elt Ideal) f
      (⟨Rect.unit (s := S3x128x128) ![2, 0, 0] S1x128x128.size i2, k0_pay44 (F := Ideal) (BitVec.ofNat 32 (i 0).val) (View.readAt (Elt Ideal) arg8.view (RL0 i).toLoadRect (harg8.unread x6))⟩
        :: ⟨Rect.unit (s := S3x128x128) ![1, 0, 0] S1x128x128.size i1, k0_pay43 (F := Ideal) (BitVec.ofNat 32 (i 0).val) (View.readAt (Elt Ideal) arg7.view (RL0 i).toLoadRect (harg7.unread x5))⟩
        :: ⟨Rect.unit (s := S3x128x128) ![0, 0, 0] S1x128x128.size i0, k0_pay42 (F := Ideal) (k0_pay41 i (View.readAt (Elt Ideal) arg6.view (RL0 i).toLoadRect (harg6.unread x4)))⟩ :: L)) (ix3 j l 0)
      = colsOf i x4 x5 x6 j (lo l) := by
  rw [planes, pay42_at, pay43_at, pay44_at]
  exact if_congr Iff.rfl (ld0 i arg6 harg6 x4 _ l) (if_congr Iff.rfl (ld0 i arg7 harg7 x5 _ l) (ld0 i arg8 harg8 x6 _ l))

/-- The scratch planes hold the scales of the last 128 rows. -/
theorem cols1 (j : Fin 3) (l : Fin 128) :
    v.read (Elt Ideal) (v.writes (Elt Ideal) f
      (⟨Rect.unit (s := S3x128x128) ![2, 0, 0] S1x128x128.size i2, k0_pay64 (F := Ideal) (BitVec.ofNat 32 (i 0).val) (View.readAt (Elt Ideal) arg8.view (RL1 i).toLoadRect (harg8.unread x6))⟩
        :: ⟨Rect.unit (s := S3x128x128) ![1, 0, 0] S1x128x128.size i1, k0_pay63 (F := Ideal) (k0_pay62 (BitVec.ofNat 32 (i 0).val) (View.readAt (Elt Ideal) arg7.view (RL1 i).toLoadRect (harg7.unread x5)))⟩
        :: ⟨Rect.unit (s := S3x128x128) ![0, 0, 0] S1x128x128.size i0, k0_pay61 (F := Ideal) (BitVec.ofNat 32 (i 0).val) (View.readAt (Elt Ideal) arg6.view (RL1 i).toLoadRect (harg6.unread x4))⟩ :: L)) (ix3 j l 0)
      = colsOf i x4 x5 x6 j (hi l) := by
  rw [pay61_eq, pay63_eq, pay64_eq, planes, pay43_at, pay43_at, pay44_at]
  exact if_congr Iff.rfl (ld1 i arg6 harg6 x4 _ l) (if_congr Iff.rfl (ld1 i arg7 harg7 x5 _ l) (ld1 i arg8 harg8 x6 _ l))
end
end Cert.KernelIdeal.Body
-- ==== Proof.Loop1.lean ====
/- Loop 1 of the kernel body (one block of 128 rows, in four groups of 32): the pieces it stores and the sums it
   carries, in the row functions of Spec.lean. -/
module
public import proofs.«01_k».proof.Proof.KernelRows
public import proofs.«01_k».proof.Proof.Scaffold
public import proofs.«01_k».proof.Proof.BlockRows
@[expose] public section
set_option maxRecDepth 16384
noncomputable section
namespace Cert.KernelIdeal.Body.Loop1
open Cert.KernelIdeal Cert.KernelIdeal.Gen Cert.KernelIdeal.Body Idealize.ShloMosaic Idealize.ShloMosaic.TcCoe
open Idealize.ShloMosaic.Tactic Cert.Spec Cert.Quant

theorem trips_eq : k0_t1_loop.trips = 4 := by decide
theorem off2_eq : ∀ k : Fin k0_t1_loop.trips, k0_off2 k = ![0, 32 * k.val, 0] := by decide +kernel
theorem off3_eq : ∀ k : Fin k0_t1_loop.trips, k0_off3 k = ![1, 32 * k.val, 0] := by decide +kernel
theorem off4_eq : ∀ k : Fin k0_t1_loop.trips, k0_off4 k = ![2, 32 * k.val, 0] := by decide +kernel
theorem off5_eq : ∀ k : Fin k0_t1_loop.trips, k0_off5 k = ![0, 32 * k.val, 0] := by decide +kernel
theorem off6_eq : ∀ k : Fin k0_t1_loop.trips, k0_off6 k = ![32 * k.val, 0] := by decide +kernel

theorem lt4 (k : Fin k0_t1_loop.trips) : k.val < 4 := lt_of_lt_of_eq k.isLt trips_eq

/-- The block row of row `r` of group `k`. -/
def brow (k : Fin k0_t1_loop.trips) (r : Fin 32) : Fin 256 := ⟨32 * k.val + r.val, by have := lt4 k; omega⟩
/-- The same row in its block of 128. -/
def trow (k : Fin k0_t1_loop.trips) (r : Fin 32) : Fin 128 := ⟨32 * k.val + r.val, by have := lt4 k; omega⟩

/-- The group's rows of a staged block, and of a scale column. -/
abbrev RB (k : Fin k0_t1_loop.trips) : Rect S1x256x2048 := Rect.unit (s := S1x256x2048) (k0_off5 k) S1x32x2048.size (k0_off5_inb k)
abbrev R0 (k : Fin k0_t1_loop.trips) : Rect S3x128x128 := Rect.unit (s := S3x128x128) (k0_off2 k) S1x32x1.size (k0_off2_inb k)
abbrev R1 (k : Fin k0_t1_loop.trips) : Rect S3x128x128 := Rect.unit (s := S3x128x128) (k0_off3 k) S1x32x1.size (k0_off3_inb k)
abbrev R2 (k : Fin k0_t1_loop.trips) : Rect S3x128x128 := Rect.unit (s := S3x128x128) (k0_off4 k) S1x32x1.size (k0_off4_inb k)
abbrev RH (k : Fin k0_t1_loop.trips) : Rect S128x128 := Rect.unit (s := S128x128) (k0_off6 k) S32x128.size (k0_off6_inb k)

theorem embB (k : Fin k0_t1_loop.trips) (r : Fin 32) (d : Fin 2048) : (RB k).emb (ix3 0 r d) = ix3 0 (brow k r) d := by
  have h := off5_eq k
  funext a; apply Fin.ext
  match a with
  | ⟨0, _⟩ => show k0_off5 k 0 + 1 * 0 = 0; rw [h]; rfl
  | ⟨1, _⟩ => show k0_off5 k 1 + 1 * r.val = 32 * k.val + r.val; rw [h]; show 32 * k.val + 1 * r.val = _; omega
  | ⟨2, _⟩ => show k0_off5 k 2 + 1 * d.val = d.val; rw [h]; show 0 + 1 * d.val = _; omega
theorem emb0 (k : Fin k0_t1_loop.trips) (r : Fin 32) : (R0 k).emb (ix3 0 r 0) = ix3 0 (trow k r) 0 := by
  have h := off2_eq k
  funext a; apply Fin.ext
  match a with
  | ⟨0, _⟩ => show k0_off2 k 0 + 1 * 0 = 0; rw [h]; rfl
  | ⟨1, _⟩ => show k0_off2 k 1 + 1 * r.val = 32 * k.val + r.val; rw [h]; show 32 * k.val + 1 * r.val = _; omega
  | ⟨2, _⟩ => show k0_off2 k 2 + 1 * 0 = 0; rw [h]; rfl
theorem emb1 (k : Fin k0_t1_loop.trips) (r : Fin 32) : (R1 k).emb (ix3 0 r 0) = ix3 1 (trow k r) 0 := by
  have h := off3_eq k
  funext a; apply Fin.ext
  match a with
  | ⟨0, _⟩ => show k0_off3 k 0 + 1 * 0 = 1; rw [h]; rfl
  | ⟨1, _⟩ => show k0_off3 k 1 + 1 * r.val = 32 * k.val + r.val; rw [h]; show 32 * k.val + 1 * r.val = _; omega
  | ⟨2, _⟩ => show k0_off3 k 2 + 1 * 0 = 0; rw [h]; rfl
theorem emb2 (k : Fin k0_t1_loop.trips) (r : Fin 32) : (R2 k).emb (ix3 0 r 0) = ix3 2 (trow k r) 0 := by
  have h := off4_eq k
  funext a; apply Fin.ext
  match a with
  | ⟨0, _⟩ => show k0_off4 k 0 + 1 * 0 = 2; rw [h]; rfl
  | ⟨1, _⟩ => show k0_off4 k 1 + 1 * r.val = 32 * k.val + r.val; rw [h]; show 32 * k.val + 1 * r.val = _; omega
  | ⟨2, _⟩ => show k0_off4 k 2 + 1 * 0 = 0; rw [h]; rfl
theorem embH (k : Fin k0_t1_loop.trips) (r : Fin 32) (l : Fin 128) : (RH k).emb (ix2 r l) = ix2 (trow k r) l := by
  have h := off6_eq k
  funext a; apply Fin.ext
  match a with
  | ⟨0, _⟩ => show k0_off6 k 0 + 1 * r.val = 32 * k.val + r.val; rw [h]; show 32 * k.val + 1 * r.val = _; omega
  | ⟨1, _⟩ => show k0_off6 k 1 + 1 * l.val = l.val; rw [h]; show 0 + 1 * l.val = _; omega

section
variable (c : Dev nD) (i : grid0.Coords) (arg2 : Memref sig .tc .vmem S1x256x2048 .fp8e4m3) (harg2 : arg2.IsWhole) (arg3 : Memref sig .tc .vmem S1x256x2048 .fp8e5m2) (harg3 : arg3.IsWhole) (arg4 : Memref sig .tc .vmem S1x256x2048 .fp8e5m2) (harg4 : arg4.IsWhole) (arg5 : Memref sig .tc .vmem S1x256x2048 .bf16) (harg5 : arg5.IsWhole) (arg6 : Memref sig .tc .vmem S8x2560 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2048 .f32) (harg9 : arg9.IsWhole) (arg10 : Memref sig .tc .vmem S8x2048 .f32) (harg10 : arg10.IsWhole) (arg11 : Memref sig .tc .vmem S1x256x2048 .bf16) (harg11 : arg11.IsWhole) (arg12 : Memref sig .tc .vmem S1x3x2048 .f32) (harg12 : arg12.IsWhole) (arg13 : Memref sig .tc .vmem S1x2x3x2048 .f32) (harg13 : arg13.IsWhole) (arg14 : Memref sig .tc .vmem S1x256x2048 .fp8e4m3) (harg14 : arg14.IsWhole) (arg15 : Memref sig .tc .vmem S8x2560 .f32) (harg15 : arg15.IsWhole) (arg16 : Memref sig .tc .vmem S3x128x128 .f32) (harg16 : arg16.IsWhole) (arg17 : Memref sig .tc .vmem S128x128 .f32) (harg17 : arg17.IsWhole)
  (a0 : BitVec 32) (o m : FVec Ideal S1x2048 .f32) (w : BitVec 32) (v : FVec Ideal S128x128 .f32)
  (x0 : Vec Ideal S1x256x2048 .fp8e4m3) (x1 x2 : Vec Ideal S1x256x2048 .fp8e5m2) (x3 : Vec Ideal S1x256x2048 .bf16)
  (X16 : BufTy.Contents (Elt Ideal) arg16.view.ty)
  (k : Fin k0_t1_loop.trips) (acc : FVec Ideal S8x2048 .f32 × FVec Ideal S8x2048 .f32 × FVec Ideal S8x2048 .f32)

/-- What one group loads. -/
abbrev lx0 := View.readAt (Elt Ideal) arg2.view (RB k).toLoadRect (harg2.unread x0)
abbrev lx1 := View.readAt (Elt Ideal) arg3.view (RB k).toLoadRect (harg3.unread x1)
abbrev lx2 := View.readAt (Elt Ideal) arg4.view (RB k).toLoadRect (harg4.unread x2)
abbrev lx3 := View.readAt (Elt Ideal) arg5.view (RB k).toLoadRect (harg5.unread x3)
abbrev ls0 := View.readAt (Elt Ideal) arg16.view (R0 k).toLoadRect X16
abbrev ls1 := View.readAt (Elt Ideal) arg16.view (R1 k).toLoadRect X16
abbrev ls2 := View.readAt (Elt Ideal) arg16.view (R2 k).toLoadRect X16

set_option maxHeartbeats 1000000 in
/-- What one trip stores. -/
theorem tripL_eq : tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 o m w v (harg2.unread x0) (harg3.unread x1) (harg4.unread x2) (harg5.unread x3) X16 k acc
    = ([⟨RB k, k0_pay48 o (k0_pay5 (ls0 arg16 X16 k) (lx0 arg2 harg2 x0 k)) (k0_pay6 (ls0 arg16 X16 k) (lx0 arg2 harg2 x0 k))
          (k0_pay16 (k0_pay3 (ls2 arg16 X16 k)) (lx2 arg4 harg4 x2 k)) (k0_pay17 (k0_pay2 (ls1 arg16 X16 k)) (lx1 arg3 harg3 x1 k))⟩],
       [⟨RB k, k0_pay14 (k0_pay7 o m (ls0 arg16 X16 k) (lx0 arg2 harg2 x0 k))
          (k0_pay13 (k0_pay9 (k0_pay8 o m (ls0 arg16 X16 k) (lx0 arg2 harg2 x0 k))) (k0_pay10 (k0_pay8 o m (ls0 arg16 X16 k) (lx0 arg2 harg2 x0 k)))
            (k0_pay11 (k0_pay8 o m (ls0 arg16 X16 k) (lx0 arg2 harg2 x0 k))))⟩],
       [⟨RH k, k0_pay15 (F := Ideal)
          (k0_pay12 (k0_pay9 (k0_pay8 o m (ls0 arg16 X16 k) (lx0 arg2 harg2 x0 k))) (k0_pay10 (k0_pay8 o m (ls0 arg16 X16 k) (lx0 arg2 harg2 x0 k)))
            (k0_pay11 (k0_pay8 o m (ls0 arg16 X16 k) (lx0 arg2 harg2 x0 k))))⟩]) := by
  unfold tripL_k0_t1 trip_k0_t1; dsimp only; sl_unfold_words
  rfl

set_option maxHeartbeats 1000000 in
/-- What one trip carries on. -/
theorem tripR_eq : tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 o m w v (harg2.unread x0) (harg3.unread x1) (harg4.unread x2) (harg5.unread x3) X16 k acc
    = (k0_pay19 acc.1 (k0_pay3 (ls2 arg16 X16 k)) (lx2 arg4 harg4 x2 k),
       k0_pay46 acc.2.1 (k0_pay6 (ls0 arg16 X16 k) (lx0 arg2 harg2 x0 k)) (k0_pay16 (k0_pay3 (ls2 arg16 X16 k)) (lx2 arg4 harg4 x2 k)),
       k0_pay47 acc.2.2 (k0_pay17 (k0_pay2 (ls1 arg16 X16 k)) (lx1 arg3 harg3 x1 k)) (k0_pay18 (lx3 arg5 harg5 x3 k))) := by
  unfold tripR_k0_t1 trip_k0_t1; dsimp only; sl_unfold_words
  rfl
end

section
variable (c : Dev nD) (i : grid0.Coords) (arg2 : Memref sig .tc .vmem S1x256x2048 .fp8e4m3) (harg2 : arg2.IsWhole) (arg3 : Memref sig .tc .vmem S1x256x2048 .fp8e5m2) (harg3 : arg3.IsWhole) (arg4 : Memref sig .tc .vmem S1x256x2048 .fp8e5m2) (harg4 : arg4.IsWhole) (arg5 : Memref sig .tc .vmem S1x256x2048 .bf16) (harg5 : arg5.IsWhole) (arg6 : Memref sig .tc .vmem S8x2560 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2048 .f32) (harg9 : arg9.IsWhole) (arg10 : Memref sig .tc .vmem S8x2048 .f32) (harg10 : arg10.IsWhole) (arg11 : Memref sig .tc .vmem S1x256x2048 .bf16) (harg11 : arg11.IsWhole) (arg12 : Memref sig .tc .vmem S1x3x2048 .f32) (harg12 : arg12.IsWhole) (arg13 : Memref sig .tc .vmem S1x2x3x2048 .f32) (harg13 : arg13.IsWhole) (arg14 : Memref sig .tc .vmem S1x256x2048 .fp8e4m3) (harg14 : arg14.IsWhole) (arg15 : Memref sig .tc .vmem S8x2560 .f32) (harg15 : arg15.IsWhole) (arg16 : Memref sig .tc .vmem S3x128x128 .f32) (harg16 : arg16.IsWhole) (arg17 : Memref sig .tc .vmem S128x128 .f32) (harg17 : arg17.IsWhole)
  (a0 : BitVec 32) (o m : FVec Ideal S1x2048 .f32) (w : BitVec 32) (v : FVec Ideal S128x128 .f32)
  (x0 : Vec Ideal S1x256x2048 .fp8e4m3) (x1 x2 : Vec Ideal S1x256x2048 .fp8e5m2) (x3 : Vec Ideal S1x256x2048 .bf16)
  (X16 : BufTy.Contents (Elt Ideal) arg16.view.ty) (C : Fin 3 → Fin 256 → EReal)
  (hC : ∀ (j : Fin 3) (l : Fin 128), arg16.view.read (Elt Ideal) X16 (ix3 j l 0) = C j (lo l))
  (k : Fin k0_t1_loop.trips)
include hC

theorem grow0 (r : Fin 32) : grow (lx0 arg2 harg2 x0 k) (ls0 arg16 X16 k) r = rowof x0 (C 0) (brow k r) := by
  funext d
  show arg2.view.read (Elt Ideal) (harg2.unread x0) ((RB k).emb (ix3 0 r d)) * arg16.view.read (Elt Ideal) X16 ((R0 k).emb (ix3 0 r 0)) = _
  rw [harg2.read_unread, embB, emb0, hC]; rfl
theorem grow1 (r : Fin 32) : grow (lx1 arg3 harg3 x1 k) (ls1 arg16 X16 k) r = rowof x1 (C 1) (brow k r) := by
  funext d
  show arg3.view.read (Elt Ideal) (harg3.unread x1) ((RB k).emb (ix3 0 r d)) * arg16.view.read (Elt Ideal) X16 ((R1 k).emb (ix3 0 r 0)) = _
  rw [harg3.read_unread, embB, emb1, hC]; rfl
theorem grow2 (r : Fin 32) : grow (lx2 arg4 harg4 x2 k) (ls2 arg16 X16 k) r = rowof x2 (C 2) (brow k r) := by
  funext d
  show arg4.view.read (Elt Ideal) (harg4.unread x2) ((RB k).emb (ix3 0 r d)) * arg16.view.read (Elt Ideal) X16 ((R2 k).emb (ix3 0 r 0)) = _
  rw [harg4.read_unread, embB, emb2, hC]; rfl
omit hC in
theorem load3 (r : Fin 32) (d : Fin 2048) : lx3 arg5 harg5 x3 k (ix3 0 r d) = x3 (ix3 0 (brow k r) d) := by
  show arg5.view.read (Elt Ideal) (harg5.unread x3) ((RB k).emb (ix3 0 r d)) = _
  rw [harg5.read_unread, embB]

/-- One group's stored gradient, codes and scales are its rows of the block's. -/
theorem piece_dx (x : S1x32x2048.Idx) :
    k0_pay48 o (k0_pay5 (ls0 arg16 X16 k) (lx0 arg2 harg2 x0 k)) (k0_pay6 (ls0 arg16 X16 k) (lx0 arg2 harg2 x0 k))
          (k0_pay16 (k0_pay3 (ls2 arg16 X16 k)) (lx2 arg4 harg4 x2 k)) (k0_pay17 (k0_pay2 (ls1 arg16 X16 k)) (lx1 arg3 harg3 x1 k)) x
      = bdx x0 x1 x2 C (row0 o) ((RB k).emb x) := by
  obtain ⟨z, r, d, rfl⟩ := ex3 x
  obtain rfl : z = 0 := Subsingleton.elim _ _
  rw [pay48_at, embB, grow0 (hC := hC), grow1 (hC := hC), grow2 (hC := hC)]; rfl

theorem piece_hq (x : S1x32x2048.Idx) :
    k0_pay14 (k0_pay7 o m (ls0 arg16 X16 k) (lx0 arg2 harg2 x0 k))
          (k0_pay13 (k0_pay9 (k0_pay8 o m (ls0 arg16 X16 k) (lx0 arg2 harg2 x0 k))) (k0_pay10 (k0_pay8 o m (ls0 arg16 X16 k) (lx0 arg2 harg2 x0 k)))
            (k0_pay11 (k0_pay8 o m (ls0 arg16 X16 k) (lx0 arg2 harg2 x0 k)))) x
      = bhq x0 C (row0 o) (row0 m) ((RB k).emb x) := by
  obtain ⟨z, r, d, rfl⟩ := ex3 x
  obtain rfl : z = 0 := Subsingleton.elim _ _
  rw [pay14_at, embB, grow0 (hC := hC)]; rfl

theorem piece_hs (x : S32x128.Idx) :
    k0_pay15 (F := Ideal)
          (k0_pay12 (k0_pay9 (k0_pay8 o m (ls0 arg16 X16 k) (lx0 arg2 harg2 x0 k))) (k0_pay10 (k0_pay8 o m (ls0 arg16 X16 k) (lx0 arg2 harg2 x0 k)))
            (k0_pay11 (k0_pay8 o m (ls0 arg16 X16 k) (lx0 arg2 harg2 x0 k)))) x
      = bhs x0 C (row0 o) (row0 m) ⟨((RH k).emb x 0).val, by have h : ((RH k).emb x 0).val < 128 := ((RH k).emb x 0).isLt; omega⟩ := by
  obtain ⟨r, l, rfl⟩ := ex2 x
  rw [pay15_at, grow0 (hC := hC)]
  have e : (RH k).emb (ix2 r l) = ix2 (trow k r) l := embH k r l
  simp only [e]
  rfl

/-- What group `g` adds to row `q` of the three running sums. -/
def gsum (x0 x1 x2 x3 : S1x256x2048.Idx → EReal) (C : Fin 3 → Fin 256 → EReal) (j : Fin 3) (q : Fin 8) (d : Fin 2048) (g : ℕ) : EReal :=
  if h : g < 4 then ∑ a : Fin 4, bdm x0 x1 x2 x3 C j ⟨(32 * g + (a.val * 8 + q.val)), by omega⟩ d else 0

variable (acc : FVec Ideal S8x2048 .f32) (q : Fin 8) (d : Fin 2048)

theorem step0 : k0_pay19 acc (k0_pay3 (ls2 arg16 X16 k)) (lx2 arg4 harg4 x2 k) (ix2 q d)
    = acc (ix2 q d) + gsum x0 x1 x2 x3 C 0 q d k.val := by
  rw [pay19_at, gsum, dif_pos (lt4 k)]
  unfold fold32
  simp only [grow2 (hC := hC), bdm, brow, Nat.add_assoc]
  rfl
theorem step1 : k0_pay46 acc (k0_pay6 (ls0 arg16 X16 k) (lx0 arg2 harg2 x0 k)) (k0_pay16 (k0_pay3 (ls2 arg16 X16 k)) (lx2 arg4 harg4 x2 k)) (ix2 q d)
    = acc (ix2 q d) + gsum x0 x1 x2 x3 C 1 q d k.val := by
  rw [pay46_at, gsum, dif_pos (lt4 k)]
  unfold fold32
  simp only [grow2 (hC := hC), grow0 (hC := hC), bdm, brow, Nat.add_assoc]
  rfl
theorem step2 : k0_pay47 acc (k0_pay17 (k0_pay2 (ls1 arg16 X16 k)) (lx1 arg3 harg3 x1 k)) (k0_pay18 (lx3 arg5 harg5 x3 k)) (ix2 q d)
    = acc (ix2 q d) + gsum x0 x1 x2 x3 C 2 q d k.val := by
  rw [pay47_at, gsum, dif_pos (lt4 k)]
  unfold fold32
  simp only [grow1 (hC := hC), load3, bdm, brow, Nat.add_assoc]
  rfl

/-- What holds before trip `g`: the stored pieces are rows of the block's results, they cover the rows so far, and
    the running sums are the groups' so far. -/
structure Inv (x0 x1 x2 x3 : S1x256x2048.Idx → EReal) (C : Fin 3 → Fin 256 → EReal) (o m : Row) (g : ℕ)
    (S : (FVec Ideal S8x2048 .f32 × FVec Ideal S8x2048 .f32 × FVec Ideal S8x2048 .f32) × List (View.Piece (Elt Ideal) S1x256x2048 .bf16) × List (View.Piece (Elt Ideal) S1x256x2048 .fp8e4m3) × List (View.Piece (Elt Ideal) S128x128 .f32)) : Prop where
  dx : ∀ p ∈ S.2.1, ∀ x, p.2 x = bdx x0 x1 x2 C o (p.1.emb x)
  dxc : ∀ y : S1x256x2048.Idx, 0 ≤ (y 1).val → (y 1).val < 32 * g → ∃ p ∈ S.2.1, y ∈ p.1.set
  dxo : ∀ y : S1x256x2048.Idx, ((y 1).val < 0 ∨ 128 ≤ (y 1).val) → ∀ p ∈ S.2.1, y ∉ p.1.set
  hq : ∀ p ∈ S.2.2.1, ∀ x, p.2 x = bhq x0 C o m (p.1.emb x)
  hqc : ∀ y : S1x256x2048.Idx, 0 ≤ (y 1).val → (y 1).val < 32 * g → ∃ p ∈ S.2.2.1, y ∈ p.1.set
  hqo : ∀ y : S1x256x2048.Idx, ((y 1).val < 0 ∨ 128 ≤ (y 1).val) → ∀ p ∈ S.2.2.1, y ∉ p.1.set
  hs : ∀ p ∈ S.2.2.2, ∀ x, p.2 x = bhs x0 C o m ⟨(p.1.emb x 0).val, by have h : (p.1.emb x 0).val < 128 := (p.1.emb x 0).isLt; omega⟩
  hsc : ∀ y : S128x128.Idx, (y 0).val < 32 * g → ∃ p ∈ S.2.2.2, y ∈ p.1.set
  s0 : ∀ q d, S.1.1 (ix2 q d) = 0 + ∑ a ∈ Finset.range g, gsum x0 x1 x2 x3 C 0 q d a
  s1 : ∀ q d, S.1.2.1 (ix2 q d) = 0 + ∑ a ∈ Finset.range g, gsum x0 x1 x2 x3 C 1 q d a
  s2 : ∀ q d, S.1.2.2 (ix2 q d) = 0 + ∑ a ∈ Finset.range g, gsum x0 x1 x2 x3 C 2 q d a

omit hC in
theorem memB (y : S1x256x2048.Idx) : y ∈ (RB k).set ↔ 32 * k.val ≤ (y 1).val ∧ (y 1).val < 32 * k.val + 32 := by
  have h := off5_eq k
  have h0 : (y 0).val < 1 := (y 0).isLt
  have h2 : (y 2).val < 2048 := (y 2).isLt
  rw [Rect.mem_set_unit]
  constructor
  · intro H
    have := H 1
    rw [h] at this
    exact this
  · intro H a
    rw [h]
    match a with
    | ⟨0, _⟩ => exact ⟨Nat.zero_le _, by show (y 0).val < 0 + 1; omega⟩
    | ⟨1, _⟩ => exact H
    | ⟨2, _⟩ => exact ⟨Nat.zero_le _, by show (y 2).val < 0 + 2048; omega⟩

omit hC in
theorem memH (y : S128x128.Idx) : y ∈ (RH k).set ↔ 32 * k.val ≤ (y 0).val ∧ (y 0).val < 32 * k.val + 32 := by
  have h := off6_eq k
  have h2 : (y 1).val < 128 := (y 1).isLt
  rw [Rect.mem_set_unit]
  constructor
  · intro H
    have := H 0
    rw [h] at this
    exact this
  · intro H a
    rw [h]
    match a with
    | ⟨0, _⟩ => exact H
    | ⟨1, _⟩ => exact ⟨Nat.zero_le _, by show (y 1).val < 0 + 128; omega⟩

theorem inv (g : ℕ) (hg : g ≤ 4) : Inv x0 x1 x2 x3 C (row0 o) (row0 m) g
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 o m w v (harg2.unread x0) (harg3.unread x1) (harg4.unread x2) (harg5.unread x3) X16 (k0_pay45, k0_pay45, k0_pay45) g) := by
  induction g with
  | zero =>
    refine ⟨?_, ?_, ?_, ?_, ?_, ?_, ?_, ?_, ?_, ?_, ?_⟩
    · intro p hp; exact absurd hp (List.not_mem_nil)
    · intro y h1 h2; omega
    · intro y h p hp; exact absurd hp (List.not_mem_nil)
    · intro p hp; exact absurd hp (List.not_mem_nil)
    · intro y h1 h2; omega
    · intro y h p hp; exact absurd hp (List.not_mem_nil)
    · intro p hp; exact absurd hp (List.not_mem_nil)
    · intro y h1; omega
    · intro q d
      show k0_pay45 (ix2 q d) = _
      rw [pay45_at, Finset.sum_range_zero, add_zero]
    · intro q d
      show k0_pay45 (ix2 q d) = _
      rw [pay45_at, Finset.sum_range_zero, add_zero]
    · intro q d
      show k0_pay45 (ix2 q d) = _
      rw [pay45_at, Finset.sum_range_zero, add_zero]
  | succ g ih =>
    have I := ih (by omega)
    have hk : g < k0_t1_loop.trips := by rw [trips_eq]; omega
    have e := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 o m w v (harg2.unread x0) (harg3.unread x1) (harg4.unread x2) (harg5.unread x3) X16 (k0_pay45, k0_pay45, k0_pay45) ⟨g, hk⟩
    rw [tripL_eq, tripR_eq] at e
    dsimp only [List.cons_append, List.nil_append] at e
    rw [e]
    generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 o m w v (harg2.unread x0) (harg3.unread x1) (harg4.unread x2) (harg5.unread x3) X16 (k0_pay45, k0_pay45, k0_pay45) g = S at I
    refine ⟨?_, ?_, ?_, ?_, ?_, ?_, ?_, ?_, ?_, ?_, ?_⟩
    · intro p hp
      rcases List.mem_cons.mp hp with rfl | hp
      · intro x; exact piece_dx (hC := hC) ..
      · exact I.dx p hp
    · intro y h1 h2
      by_cases h : (y 1).val < 32 * g
      · obtain ⟨p, hp, hy⟩ := I.dxc y h1 h
        exact ⟨p, List.mem_cons_of_mem _ hp, hy⟩
      · exact ⟨_, List.mem_cons_self, (memB ⟨g, hk⟩ y).mpr ⟨by show 32 * g ≤ _; omega, by show _ < 32 * g + 32; omega⟩⟩
    · intro y h p hp
      rcases List.mem_cons.mp hp with rfl | hp
      · intro hy
        have := (memB ⟨g, hk⟩ y).mp hy
        simp only at this
        omega
      · exact I.dxo y h p hp
    · intro p hp
      rcases List.mem_cons.mp hp with rfl | hp
      · intro x; exact piece_hq (hC := hC) ..
      · exact I.hq p hp
    · intro y h1 h2
      by_cases h : (y 1).val < 32 * g
      · obtain ⟨p, hp, hy⟩ := I.hqc y h1 h
        exact ⟨p, List.mem_cons_of_mem _ hp, hy⟩
      · exact ⟨_, List.mem_cons_self, (memB ⟨g, hk⟩ y).mpr ⟨by show 32 * g ≤ _; omega, by show _ < 32 * g + 32; omega⟩⟩
    · intro y h p hp
      rcases List.mem_cons.mp hp with rfl | hp
      · intro hy
        have := (memB ⟨g, hk⟩ y).mp hy
        simp only at this
        omega
      · exact I.hqo y h p hp
    · intro p hp
      rcases List.mem_cons.mp hp with rfl | hp
      · intro x; exact piece_hs (hC := hC) ..
      · exact I.hs p hp
    · intro y h2
      by_cases h : (y 0).val < 32 * g
      · obtain ⟨p, hp, hy⟩ := I.hsc y h
        exact ⟨p, List.mem_cons_of_mem _ hp, hy⟩
      · exact ⟨_, List.mem_cons_self, (memH ⟨g, hk⟩ y).mpr ⟨by show 32 * g ≤ _; omega, by show _ < 32 * g + 32; omega⟩⟩
    · intro q d
      rw [Finset.sum_range_succ, ← add_assoc, ← I.s0 q d]
      exact step0 (hC := hC) ..
    · intro q d
      rw [Finset.sum_range_succ, ← add_assoc, ← I.s1 q d]
      exact step1 (hC := hC) ..
    · intro q d
      rw [Finset.sum_range_succ, ← add_assoc, ← I.s2 q d]
      exact step2 (hC := hC) ..

omit hC in
/-- The eight rows of a running sum after the four groups add up to the sum over the block's 128 rows. -/
theorem gsum_all (j : Fin 3) : (∑ q : Fin 8, (0 + ∑ a ∈ Finset.range 4, gsum x0 x1 x2 x3 C j q d a))
    = half0 x0 x1 x2 x3 C j d := by
  unfold half0
  rw [← sum128 fun l : Fin 128 => bdm x0 x1 x2 x3 C j (lo l) d]
  refine Finset.sum_congr rfl fun q _ => ?_
  simp only [Finset.sum_range_succ, Finset.sum_range_zero, zero_add]
  rfl
end

end Cert.KernelIdeal.Body.Loop1
-- ==== Proof.Loop2.lean ====
/- Loop 2 of the kernel body (one block of 128 rows, in four groups of 32): the pieces it stores and the sums it
   carries, in the row functions of Spec.lean. -/
module
public import proofs.«01_k».proof.Proof.KernelRows
public import proofs.«01_k».proof.Proof.Scaffold
public import proofs.«01_k».proof.Proof.BlockRows
@[expose] public section
set_option maxRecDepth 16384
noncomputable section
namespace Cert.KernelIdeal.Body.Loop2
open Cert.KernelIdeal Cert.KernelIdeal.Gen Cert.KernelIdeal.Body Idealize.ShloMosaic Idealize.ShloMosaic.TcCoe
open Idealize.ShloMosaic.Tactic Cert.Spec Cert.Quant

theorem trips_eq : k0_t2_loop.trips = 4 := by decide
theorem off7_eq : ∀ k : Fin k0_t2_loop.trips, k0_off7 k = ![0, 32 * k.val, 0] := by decide +kernel
theorem off8_eq : ∀ k : Fin k0_t2_loop.trips, k0_off8 k = ![1, 32 * k.val, 0] := by decide +kernel
theorem off9_eq : ∀ k : Fin k0_t2_loop.trips, k0_off9 k = ![2, 32 * k.val, 0] := by decide +kernel
theorem off10_eq : ∀ k : Fin k0_t2_loop.trips, k0_off10 k = ![0, 128 + 32 * k.val, 0] := by decide +kernel
theorem off11_eq : ∀ k : Fin k0_t2_loop.trips, k0_off11 k = ![32 * k.val, 0] := by decide +kernel

theorem lt4 (k : Fin k0_t2_loop.trips) : k.val < 4 := lt_of_lt_of_eq k.isLt trips_eq

/-- The block row of row `r` of group `k`. -/
def brow (k : Fin k0_t2_loop.trips) (r : Fin 32) : Fin 256 := ⟨128 + 32 * k.val + r.val, by have := lt4 k; omega⟩
/-- The same row in its block of 128. -/
def trow (k : Fin k0_t2_loop.trips) (r : Fin 32) : Fin 128 := ⟨32 * k.val + r.val, by have := lt4 k; omega⟩

/-- The group's rows of a staged block, and of a scale column. -/
abbrev RB (k : Fin k0_t2_loop.trips) : Rect S1x256x2048 := Rect.unit (s := S1x256x2048) (k0_off10 k) S1x32x2048.size (k0_off10_inb k)
abbrev R0 (k : Fin k0_t2_loop.trips) : Rect S3x128x128 := Rect.unit (s := S3x128x128) (k0_off7 k) S1x32x1.size (k0_off7_inb k)
abbrev R1 (k : Fin k0_t2_loop.trips) : Rect S3x128x128 := Rect.unit (s := S3x128x128) (k0_off8 k) S1x32x1.size (k0_off8_inb k)
abbrev R2 (k : Fin k0_t2_loop.trips) : Rect S3x128x128 := Rect.unit (s := S3x128x128) (k0_off9 k) S1x32x1.size (k0_off9_inb k)
abbrev RH (k : Fin k0_t2_loop.trips) : Rect S128x128 := Rect.unit (s := S128x128) (k0_off11 k) S32x128.size (k0_off11_inb k)

theorem embB (k : Fin k0_t2_loop.trips) (r : Fin 32) (d : Fin 2048) : (RB k).emb (ix3 0 r d) = ix3 0 (brow k r) d := by
  have h := off10_eq k
  funext a; apply Fin.ext
  match a with
  | ⟨0, _⟩ => show k0_off10 k 0 + 1 * 0 = 0; rw [h]; rfl
  | ⟨1, _⟩ => show k0_off10 k 1 + 1 * r.val = 128 + 32 * k.val + r.val; rw [h]; show 128 + 32 * k.val + 1 * r.val = _; omega
  | ⟨2, _⟩ => show k0_off10 k 2 + 1 * d.val = d.val; rw [h]; show 0 + 1 * d.val = _; omega
theorem emb0 (k : Fin k0_t2_loop.trips) (r : Fin 32) : (R0 k).emb (ix3 0 r 0) = ix3 0 (trow k r) 0 := by
  have h := off7_eq k
  funext a; apply Fin.ext
  match a with
  | ⟨0, _⟩ => show k0_off7 k 0 + 1 * 0 = 0; rw [h]; rfl
  | ⟨1, _⟩ => show k0_off7 k 1 + 1 * r.val = 32 * k.val + r.val; rw [h]; show 32 * k.val + 1 * r.val = _; omega
  | ⟨2, _⟩ => show k0_off7 k 2 + 1 * 0 = 0; rw [h]; rfl
theorem emb1 (k : Fin k0_t2_loop.trips) (r : Fin 32) : (R1 k).emb (ix3 0 r 0) = ix3 1 (trow k r) 0 := by
  have h := off8_eq k
  funext a; apply Fin.ext
  match a with
  | ⟨0, _⟩ => show k0_off8 k 0 + 1 * 0 = 1; rw [h]; rfl
  | ⟨1, _⟩ => show k0_off8 k 1 + 1 * r.val = 32 * k.val + r.val; rw [h]; show 32 * k.val + 1 * r.val = _; omega
  | ⟨2, _⟩ => show k0_off8 k 2 + 1 * 0 = 0; rw [h]; rfl
theorem emb2 (k : Fin k0_t2_loop.trips) (r : Fin 32) : (R2 k).emb (ix3 0 r 0) = ix3 2 (trow k r) 0 := by
  have h := off9_eq k
  funext a; apply Fin.ext
  match a with
  | ⟨0, _⟩ => show k0_off9 k 0 + 1 * 0 = 2; rw [h]; rfl
  | ⟨1, _⟩ => show k0_off9 k 1 + 1 * r.val = 32 * k.val + r.val; rw [h]; show 32 * k.val + 1 * r.val = _; omega
  | ⟨2, _⟩ => show k0_off9 k 2 + 1 * 0 = 0; rw [h]; rfl
theorem embH (k : Fin k0_t2_loop.trips) (r : Fin 32) (l : Fin 128) : (RH k).emb (ix2 r l) = ix2 (trow k r) l := by
  have h := off11_eq k
  funext a; apply Fin.ext
  match a with
  | ⟨0, _⟩ => show k0_off11 k 0 + 1 * r.val = 32 * k.val + r.val; rw [h]; show 32 * k.val + 1 * r.val = _; omega
  | ⟨1, _⟩ => show k0_off11 k 1 + 1 * l.val = l.val; rw [h]; show 0 + 1 * l.val = _; omega

section
variable (c : Dev nD) (i : grid0.Coords) (arg2 : Memref sig .tc .vmem S1x256x2048 .fp8e4m3) (harg2 : arg2.IsWhole) (arg3 : Memref sig .tc .vmem S1x256x2048 .fp8e5m2) (harg3 : arg3.IsWhole) (arg4 : Memref sig .tc .vmem S1x256x2048 .fp8e5m2) (harg4 : arg4.IsWhole) (arg5 : Memref sig .tc .vmem S1x256x2048 .bf16) (harg5 : arg5.IsWhole) (arg6 : Memref sig .tc .vmem S8x2560 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2048 .f32) (harg9 : arg9.IsWhole) (arg10 : Memref sig .tc .vmem S8x2048 .f32) (harg10 : arg10.IsWhole) (arg11 : Memref sig .tc .vmem S1x256x2048 .bf16) (harg11 : arg11.IsWhole) (arg12 : Memref sig .tc .vmem S1x3x2048 .f32) (harg12 : arg12.IsWhole) (arg13 : Memref sig .tc .vmem S1x2x3x2048 .f32) (harg13 : arg13.IsWhole) (arg14 : Memref sig .tc .vmem S1x256x2048 .fp8e4m3) (harg14 : arg14.IsWhole) (arg15 : Memref sig .tc .vmem S8x2560 .f32) (harg15 : arg15.IsWhole) (arg16 : Memref sig .tc .vmem S3x128x128 .f32) (harg16 : arg16.IsWhole) (arg17 : Memref sig .tc .vmem S128x128 .f32) (harg17 : arg17.IsWhole)
  (a0 : BitVec 32) (o m : FVec Ideal S1x2048 .f32) (w : BitVec 32) (v : FVec Ideal S1x128 .f32)
  (x0 : Vec Ideal S1x256x2048 .fp8e4m3) (x1 x2 : Vec Ideal S1x256x2048 .fp8e5m2) (x3 : Vec Ideal S1x256x2048 .bf16)
  (X16 : BufTy.Contents (Elt Ideal) arg16.view.ty)
  (k : Fin k0_t2_loop.trips) (acc : FVec Ideal S8x2048 .f32 × FVec Ideal S8x2048 .f32 × FVec Ideal S8x2048 .f32)

/-- What one group loads. -/
abbrev lx0 := View.readAt (Elt Ideal) arg2.view (RB k).toLoadRect (harg2.unread x0)
abbrev lx1 := View.readAt (Elt Ideal) arg3.view (RB k).toLoadRect (harg3.unread x1)
abbrev lx2 := View.readAt (Elt Ideal) arg4.view (RB k).toLoadRect (harg4.unread x2)
abbrev lx3 := View.readAt (Elt Ideal) arg5.view (RB k).toLoadRect (harg5.unread x3)
abbrev ls0 := View.readAt (Elt Ideal) arg16.view (R0 k).toLoadRect X16
abbrev ls1 := View.readAt (Elt Ideal) arg16.view (R1 k).toLoadRect X16
abbrev ls2 := View.readAt (Elt Ideal) arg16.view (R2 k).toLoadRect X16

set_option maxHeartbeats 1000000 in
/-- What one trip stores. -/
theorem tripL_eq : tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 o m w v (harg2.unread x0) (harg3.unread x1) (harg4.unread x2) (harg5.unread x3) X16 k acc
    = ([⟨RB k, k0_pay48 o (k0_pay5 (ls0 arg16 X16 k) (lx0 arg2 harg2 x0 k)) (k0_pay6 (ls0 arg16 X16 k) (lx0 arg2 harg2 x0 k))
          (k0_pay16 (k0_pay3 (ls2 arg16 X16 k)) (lx2 arg4 harg4 x2 k)) (k0_pay17 (k0_pay2 (ls1 arg16 X16 k)) (lx1 arg3 harg3 x1 k))⟩],
       [⟨RB k, k0_pay14 (k0_pay7 o m (ls0 arg16 X16 k) (lx0 arg2 harg2 x0 k))
          (k0_pay13 (k0_pay9 (k0_pay8 o m (ls0 arg16 X16 k) (lx0 arg2 harg2 x0 k))) (k0_pay10 (k0_pay8 o m (ls0 arg16 X16 k) (lx0 arg2 harg2 x0 k)))
            (k0_pay11 (k0_pay8 o m (ls0 arg16 X16 k) (lx0 arg2 harg2 x0 k))))⟩],
       [⟨RH k, k0_pay15 (F := Ideal)
          (k0_pay12 (k0_pay9 (k0_pay8 o m (ls0 arg16 X16 k) (lx0 arg2 harg2 x0 k))) (k0_pay10 (k0_pay8 o m (ls0 arg16 X16 k) (lx0 arg2 harg2 x0 k)))
            (k0_pay11 (k0_pay8 o m (ls0 arg16 X16 k) (lx0 arg2 harg2 x0 k))))⟩]) := by
  unfold tripL_k0_t2 trip_k0_t2; dsimp only; sl_unfold_words
  rfl

set_option maxHeartbeats 1000000 in
/-- What one trip carries on. -/
theorem tripR_eq : tripR_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 o m w v (harg2.unread x0) (harg3.unread x1) (harg4.unread x2) (harg5.unread x3) X16 k acc
    = (k0_pay19 acc.1 (k0_pay3 (ls2 arg16 X16 k)) (lx2 arg4 harg4 x2 k),
       k0_pay46 acc.2.1 (k0_pay6 (ls0 arg16 X16 k) (lx0 arg2 harg2 x0 k)) (k0_pay16 (k0_pay3 (ls2 arg16 X16 k)) (lx2 arg4 harg4 x2 k)),
       k0_pay47 acc.2.2 (k0_pay17 (k0_pay2 (ls1 arg16 X16 k)) (lx1 arg3 harg3 x1 k)) (k0_pay18 (lx3 arg5 harg5 x3 k))) := by
  unfold tripR_k0_t2 trip_k0_t2; dsimp only; sl_unfold_words
  rfl
end

section
variable (c : Dev nD) (i : grid0.Coords) (arg2 : Memref sig .tc .vmem S1x256x2048 .fp8e4m3) (harg2 : arg2.IsWhole) (arg3 : Memref sig .tc .vmem S1x256x2048 .fp8e5m2) (harg3 : arg3.IsWhole) (arg4 : Memref sig .tc .vmem S1x256x2048 .fp8e5m2) (harg4 : arg4.IsWhole) (arg5 : Memref sig .tc .vmem S1x256x2048 .bf16) (harg5 : arg5.IsWhole) (arg6 : Memref sig .tc .vmem S8x2560 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2048 .f32) (harg9 : arg9.IsWhole) (arg10 : Memref sig .tc .vmem S8x2048 .f32) (harg10 : arg10.IsWhole) (arg11 : Memref sig .tc .vmem S1x256x2048 .bf16) (harg11 : arg11.IsWhole) (arg12 : Memref sig .tc .vmem S1x3x2048 .f32) (harg12 : arg12.IsWhole) (arg13 : Memref sig .tc .vmem S1x2x3x2048 .f32) (harg13 : arg13.IsWhole) (arg14 : Memref sig .tc .vmem S1x256x2048 .fp8e4m3) (harg14 : arg14.IsWhole) (arg15 : Memref sig .tc .vmem S8x2560 .f32) (harg15 : arg15.IsWhole) (arg16 : Memref sig .tc .vmem S3x128x128 .f32) (harg16 : arg16.IsWhole) (arg17 : Memref sig .tc .vmem S128x128 .f32) (harg17 : arg17.IsWhole)
  (a0 : BitVec 32) (o m : FVec Ideal S1x2048 .f32) (w : BitVec 32) (v : FVec Ideal S1x128 .f32)
  (x0 : Vec Ideal S1x256x2048 .fp8e4m3) (x1 x2 : Vec Ideal S1x256x2048 .fp8e5m2) (x3 : Vec Ideal S1x256x2048 .bf16)
  (X16 : BufTy.Contents (Elt Ideal) arg16.view.ty) (C : Fin 3 → Fin 256 → EReal)
  (hC : ∀ (j : Fin 3) (l : Fin 128), arg16.view.read (Elt Ideal) X16 (ix3 j l 0) = C j (hi l))
  (k : Fin k0_t2_loop.trips)
include hC

theorem grow0 (r : Fin 32) : grow (lx0 arg2 harg2 x0 k) (ls0 arg16 X16 k) r = rowof x0 (C 0) (brow k r) := by
  funext d
  show arg2.view.read (Elt Ideal) (harg2.unread x0) ((RB k).emb (ix3 0 r d)) * arg16.view.read (Elt Ideal) X16 ((R0 k).emb (ix3 0 r 0)) = _
  rw [harg2.read_unread, embB, emb0, hC]; simp only [rowof, brow, trow, Nat.add_assoc, hi]
theorem grow1 (r : Fin 32) : grow (lx1 arg3 harg3 x1 k) (ls1 arg16 X16 k) r = rowof x1 (C 1) (brow k r) := by
  funext d
  show arg3.view.read (Elt Ideal) (harg3.unread x1) ((RB k).emb (ix3 0 r d)) * arg16.view.read (Elt Ideal) X16 ((R1 k).emb (ix3 0 r 0)) = _
  rw [harg3.read_unread, embB, emb1, hC]; simp only [rowof, brow, trow, Nat.add_assoc, hi]
theorem grow2 (r : Fin 32) : grow (lx2 arg4 harg4 x2 k) (ls2 arg16 X16 k) r = rowof x2 (C 2) (brow k r) := by
  funext d
  show arg4.view.read (Elt Ideal) (harg4.unread x2) ((RB k).emb (ix3 0 r d)) * arg16.view.read (Elt Ideal) X16 ((R2 k).emb (ix3 0 r 0)) = _
  rw [harg4.read_unread, embB, emb2, hC]; simp only [rowof, brow, trow, Nat.add_assoc, hi]
omit hC in
theorem load3 (r : Fin 32) (d : Fin 2048) : lx3 arg5 harg5 x3 k (ix3 0 r d) = x3 (ix3 0 (brow k r) d) := by
  show arg5.view.read (Elt Ideal) (harg5.unread x3) ((RB k).emb (ix3 0 r d)) = _
  rw [harg5.read_unread, embB]

/-- One group's stored gradient, codes and scales are its rows of the block's. -/
theorem piece_dx (x : S1x32x2048.Idx) :
    k0_pay48 o (k0_pay5 (ls0 arg16 X16 k) (lx0 arg2 harg2 x0 k)) (k0_pay6 (ls0 arg16 X16 k) (lx0 arg2 harg2 x0 k))
          (k0_pay16 (k0_pay3 (ls2 arg16 X16 k)) (lx2 arg4 harg4 x2 k)) (k0_pay17 (k0_pay2 (ls1 arg16 X16 k)) (lx1 arg3 harg3 x1 k)) x
      = bdx x0 x1 x2 C (row0 o) ((RB k).emb x) := by
  obtain ⟨z, r, d, rfl⟩ := ex3 x
  obtain rfl : z = 0 := Subsingleton.elim _ _
  rw [pay48_at, embB, grow0 (hC := hC), grow1 (hC := hC), grow2 (hC := hC)]; rfl

theorem piece_hq (x : S1x32x2048.Idx) :
    k0_pay14 (k0_pay7 o m (ls0 arg16 X16 k) (lx0 arg2 harg2 x0 k))
          (k0_pay13 (k0_pay9 (k0_pay8 o m (ls0 arg16 X16 k) (lx0 arg2 harg2 x0 k))) (k0_pay10 (k0_pay8 o m (ls0 arg16 X16 k) (lx0 arg2 harg2 x0 k)))
            (k0_pay11 (k0_pay8 o m (ls0 arg16 X16 k) (lx0 arg2 harg2 x0 k)))) x
      = bhq x0 C (row0 o) (row0 m) ((RB k).emb x) := by
  obtain ⟨z, r, d, rfl⟩ := ex3 x
  obtain rfl : z = 0 := Subsingleton.elim _ _
  rw [pay14_at, embB, grow0 (hC := hC)]; rfl

theorem piece_hs (x : S32x128.Idx) :
    k0_pay15 (F := Ideal)
          (k0_pay12 (k0_pay9 (k0_pay8 o m (ls0 arg16 X16 k) (lx0 arg2 harg2 x0 k))) (k0_pay10 (k0_pay8 o m (ls0 arg16 X16 k) (lx0 arg2 harg2 x0 k)))
            (k0_pay11 (k0_pay8 o m (ls0 arg16 X16 k) (lx0 arg2 harg2 x0 k)))) x
      = bhs x0 C (row0 o) (row0 m) ⟨128 + ((RH k).emb x 0).val, by have h : ((RH k).emb x 0).val < 128 := ((RH k).emb x 0).isLt; omega⟩ := by
  obtain ⟨r, l, rfl⟩ := ex2 x
  rw [pay15_at, grow0 (hC := hC)]
  have e : (RH k).emb (ix2 r l) = ix2 (trow k r) l := embH k r l
  simp only [e]
  simp only [bhs, bh, brow, trow, Nat.add_assoc]; rfl

/-- What group `g` adds to row `q` of the three running sums. -/
def gsum (x0 x1 x2 x3 : S1x256x2048.Idx → EReal) (C : Fin 3 → Fin 256 → EReal) (j : Fin 3) (q : Fin 8) (d : Fin 2048) (g : ℕ) : EReal :=
  if h : g < 4 then ∑ a : Fin 4, bdm x0 x1 x2 x3 C j ⟨128 + (32 * g + (a.val * 8 + q.val)), by omega⟩ d else 0

variable (acc : FVec Ideal S8x2048 .f32) (q : Fin 8) (d : Fin 2048)

theorem step0 : k0_pay19 acc (k0_pay3 (ls2 arg16 X16 k)) (lx2 arg4 harg4 x2 k) (ix2 q d)
    = acc (ix2 q d) + gsum x0 x1 x2 x3 C 0 q d k.val := by
  rw [pay19_at, gsum, dif_pos (lt4 k)]
  unfold fold32
  simp only [grow2 (hC := hC), bdm, brow, Nat.add_assoc]
  rfl
theorem step1 : k0_pay46 acc (k0_pay6 (ls0 arg16 X16 k) (lx0 arg2 harg2 x0 k)) (k0_pay16 (k0_pay3 (ls2 arg16 X16 k)) (lx2 arg4 harg4 x2 k)) (ix2 q d)
    = acc (ix2 q d) + gsum x0 x1 x2 x3 C 1 q d k.val := by
  rw [pay46_at, gsum, dif_pos (lt4 k)]
  unfold fold32
  simp only [grow2 (hC := hC), grow0 (hC := hC), bdm, brow, Nat.add_assoc]
  rfl
theorem step2 : k0_pay47 acc (k0_pay17 (k0_pay2 (ls1 arg16 X16 k)) (lx1 arg3 harg3 x1 k)) (k0_pay18 (lx3 arg5 harg5 x3 k)) (ix2 q d)
    = acc (ix2 q d) + gsum x0 x1 x2 x3 C 2 q d k.val := by
  rw [pay47_at, gsum, dif_pos (lt4 k)]
  unfold fold32
  simp only [grow1 (hC := hC), load3, bdm, brow, Nat.add_assoc]
  rfl

/-- What holds before trip `g`: the stored pieces are rows of the block's results, they cover the rows so far, and
    the running sums are the groups' so far. -/
structure Inv (x0 x1 x2 x3 : S1x256x2048.Idx → EReal) (C : Fin 3 → Fin 256 → EReal) (o m : Row) (g : ℕ)
    (S : (FVec Ideal S8x2048 .f32 × FVec Ideal S8x2048 .f32 × FVec Ideal S8x2048 .f32) × List (View.Piece (Elt Ideal) S1x256x2048 .bf16) × List (View.Piece (Elt Ideal) S1x256x2048 .fp8e4m3) × List (View.Piece (Elt Ideal) S128x128 .f32)) : Prop where
  dx : ∀ p ∈ S.2.1, ∀ x, p.2 x = bdx x0 x1 x2 C o (p.1.emb x)
  dxc : ∀ y : S1x256x2048.Idx, 128 ≤ (y 1).val → (y 1).val < 128 + 32 * g → ∃ p ∈ S.2.1, y ∈ p.1.set
  dxo : ∀ y : S1x256x2048.Idx, ((y 1).val < 128 ∨ 256 ≤ (y 1).val) → ∀ p ∈ S.2.1, y ∉ p.1.set
  hq : ∀ p ∈ S.2.2.1, ∀ x, p.2 x = bhq x0 C o m (p.1.emb x)
  hqc : ∀ y : S1x256x2048.Idx, 128 ≤ (y 1).val → (y 1).val < 128 + 32 * g → ∃ p ∈ S.2.2.1, y ∈ p.1.set
  hqo : ∀ y : S1x256x2048.Idx, ((y 1).val < 128 ∨ 256 ≤ (y 1).val) → ∀ p ∈ S.2.2.1, y ∉ p.1.set
  hs : ∀ p ∈ S.2.2.2, ∀ x, p.2 x = bhs x0 C o m ⟨128 + (p.1.emb x 0).val, by have h : (p.1.emb x 0).val < 128 := (p.1.emb x 0).isLt; omega⟩
  hsc : ∀ y : S128x128.Idx, (y 0).val < 32 * g → ∃ p ∈ S.2.2.2, y ∈ p.1.set
  s0 : ∀ q d, S.1.1 (ix2 q d) = 0 + ∑ a ∈ Finset.range g, gsum x0 x1 x2 x3 C 0 q d a
  s1 : ∀ q d, S.1.2.1 (ix2 q d) = 0 + ∑ a ∈ Finset.range g, gsum x0 x1 x2 x3 C 1 q d a
  s2 : ∀ q d, S.1.2.2 (ix2 q d) = 0 + ∑ a ∈ Finset.range g, gsum x0 x1 x2 x3 C 2 q d a

omit hC in
theorem memB (y : S1x256x2048.Idx) : y ∈ (RB k).set ↔ 128 + 32 * k.val ≤ (y 1).val ∧ (y 1).val < 128 + 32 * k.val + 32 := by
  have h := off10_eq k
  have h0 : (y 0).val < 1 := (y 0).isLt
  have h2 : (y 2).val < 2048 := (y 2).isLt
  rw [Rect.mem_set_unit]
  constructor
  · intro H
    have := H 1
    rw [h] at this
    exact this
  · intro H a
    rw [h]
    match a with
    | ⟨0, _⟩ => exact ⟨Nat.zero_le _, by show (y 0).val < 0 + 1; omega⟩
    | ⟨1, _⟩ => exact H
    | ⟨2, _⟩ => exact ⟨Nat.zero_le _, by show (y 2).val < 0 + 2048; omega⟩

omit hC in
theorem memH (y : S128x128.Idx) : y ∈ (RH k).set ↔ 32 * k.val ≤ (y 0).val ∧ (y 0).val < 32 * k.val + 32 := by
  have h := off11_eq k
  have h2 : (y 1).val < 128 := (y 1).isLt
  rw [Rect.mem_set_unit]
  constructor
  · intro H
    have := H 0
    rw [h] at this
    exact this
  · intro H a
    rw [h]
    match a with
    | ⟨0, _⟩ => exact H
    | ⟨1, _⟩ => exact ⟨Nat.zero_le _, by show (y 1).val < 0 + 128; omega⟩

theorem inv (g : ℕ) (hg : g ≤ 4) : Inv x0 x1 x2 x3 C (row0 o) (row0 m) g
    (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 o m w v (harg2.unread x0) (harg3.unread x1) (harg4.unread x2) (harg5.unread x3) X16 (k0_pay45, k0_pay45, k0_pay45) g) := by
  induction g with
  | zero =>
    refine ⟨?_, ?_, ?_, ?_, ?_, ?_, ?_, ?_, ?_, ?_, ?_⟩
    · intro p hp; exact absurd hp (List.not_mem_nil)
    · intro y h1 h2; omega
    · intro y h p hp; exact absurd hp (List.not_mem_nil)
    · intro p hp; exact absurd hp (List.not_mem_nil)
    · intro y h1 h2; omega
    · intro y h p hp; exact absurd hp (List.not_mem_nil)
    · intro p hp; exact absurd hp (List.not_mem_nil)
    · intro y h1; omega
    · intro q d
      show k0_pay45 (ix2 q d) = _
      rw [pay45_at, Finset.sum_range_zero, add_zero]
    · intro q d
      show k0_pay45 (ix2 q d) = _
      rw [pay45_at, Finset.sum_range_zero, add_zero]
    · intro q d
      show k0_pay45 (ix2 q d) = _
      rw [pay45_at, Finset.sum_range_zero, add_zero]
  | succ g ih =>
    have I := ih (by omega)
    have hk : g < k0_t2_loop.trips := by rw [trips_eq]; omega
    have e := st_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 o m w v (harg2.unread x0) (harg3.unread x1) (harg4.unread x2) (harg5.unread x3) X16 (k0_pay45, k0_pay45, k0_pay45) ⟨g, hk⟩
    rw [tripL_eq, tripR_eq] at e
    dsimp only [List.cons_append, List.nil_append] at e
    rw [e]
    generalize st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 o m w v (harg2.unread x0) (harg3.unread x1) (harg4.unread x2) (harg5.unread x3) X16 (k0_pay45, k0_pay45, k0_pay45) g = S at I
    refine ⟨?_, ?_, ?_, ?_, ?_, ?_, ?_, ?_, ?_, ?_, ?_⟩
    · intro p hp
      rcases List.mem_cons.mp hp with rfl | hp
      · intro x; exact piece_dx (hC := hC) ..
      · exact I.dx p hp
    · intro y h1 h2
      by_cases h : (y 1).val < 128 + 32 * g
      · obtain ⟨p, hp, hy⟩ := I.dxc y h1 h
        exact ⟨p, List.mem_cons_of_mem _ hp, hy⟩
      · exact ⟨_, List.mem_cons_self, (memB ⟨g, hk⟩ y).mpr ⟨by show 128 + 32 * g ≤ _; omega, by show _ < 128 + 32 * g + 32; omega⟩⟩
    · intro y h p hp
      rcases List.mem_cons.mp hp with rfl | hp
      · intro hy
        have := (memB ⟨g, hk⟩ y).mp hy
        simp only at this
        omega
      · exact I.dxo y h p hp
    · intro p hp
      rcases List.mem_cons.mp hp with rfl | hp
      · intro x; exact piece_hq (hC := hC) ..
      · exact I.hq p hp
    · intro y h1 h2
      by_cases h : (y 1).val < 128 + 32 * g
      · obtain ⟨p, hp, hy⟩ := I.hqc y h1 h
        exact ⟨p, List.mem_cons_of_mem _ hp, hy⟩
      · exact ⟨_, List.mem_cons_self, (memB ⟨g, hk⟩ y).mpr ⟨by show 128 + 32 * g ≤ _; omega, by show _ < 128 + 32 * g + 32; omega⟩⟩
    · intro y h p hp
      rcases List.mem_cons.mp hp with rfl | hp
      · intro hy
        have := (memB ⟨g, hk⟩ y).mp hy
        simp only at this
        omega
      · exact I.hqo y h p hp
    · intro p hp
      rcases List.mem_cons.mp hp with rfl | hp
      · intro x; exact piece_hs (hC := hC) ..
      · exact I.hs p hp
    · intro y h2
      by_cases h : (y 0).val < 32 * g
      · obtain ⟨p, hp, hy⟩ := I.hsc y h
        exact ⟨p, List.mem_cons_of_mem _ hp, hy⟩
      · exact ⟨_, List.mem_cons_self, (memH ⟨g, hk⟩ y).mpr ⟨by show 32 * g ≤ _; omega, by show _ < 32 * g + 32; omega⟩⟩
    · intro q d
      rw [Finset.sum_range_succ, ← add_assoc, ← I.s0 q d]
      exact step0 (hC := hC) ..
    · intro q d
      rw [Finset.sum_range_succ, ← add_assoc, ← I.s1 q d]
      exact step1 (hC := hC) ..
    · intro q d
      rw [Finset.sum_range_succ, ← add_assoc, ← I.s2 q d]
      exact step2 (hC := hC) ..

omit hC in
/-- The eight rows of a running sum after the four groups add up to the sum over the block's 128 rows. -/
theorem gsum_all (j : Fin 3) : (∑ q : Fin 8, (0 + ∑ a ∈ Finset.range 4, gsum x0 x1 x2 x3 C j q d a))
    = half1 x0 x1 x2 x3 C j d := by
  unfold half1
  rw [← sum128 fun l : Fin 128 => bdm x0 x1 x2 x3 C j (hi l) d]
  refine Finset.sum_congr rfl fun q _ => ?_
  simp only [Finset.sum_range_succ, Finset.sum_range_zero, zero_add]
  rfl
end

end Cert.KernelIdeal.Body.Loop2
-- ==== Proof.Outputs.lean ====
/- What one grid point leaves in each output's staging buffer, from what its two loops store and carry. -/
module
public import proofs.«01_k».proof.Proof.Columns
public import proofs.«01_k».proof.Proof.Loop1
public import proofs.«01_k».proof.Proof.Loop2
@[expose] public section
set_option maxRecDepth 16384
noncomputable section
namespace Cert.KernelIdeal.Body
open Cert.KernelIdeal Cert.KernelIdeal.Gen Idealize.ShloMosaic Idealize.ShloMosaic.TcCoe
open Idealize.ShloMosaic.Tactic Cert.Spec Cert.Quant

/-- What a loop carries (three sums of eight rows) and stores (pieces of the gradient, of the codes and of the scales). -/
abbrev LoopState := (FVec Ideal S8x2048 .f32 × FVec Ideal S8x2048 .f32 × FVec Ideal S8x2048 .f32) × List (View.Piece (Elt Ideal) S1x256x2048 .bf16) × List (View.Piece (Elt Ideal) S1x256x2048 .fp8e4m3) × List (View.Piece (Elt Ideal) S128x128 .f32)

/-- The accumulated modulation gradients after the point, from what stood before it. -/
def dmstep (x0 x1 x2 x3 : S1x256x2048.Idx → EReal) (C : Fin 3 → Fin 256 → EReal) (Y : S1x3x2048.Idx → EReal) : S1x3x2048.Idx → EReal :=
  fun j => Y j + half0 x0 x1 x2 x3 C (j 1) (j 2) + half1 x0 x1 x2 x3 C (j 1) (j 2)

/-- The array of scales after the point, from what stood before it: the point's 256 rows are replaced. -/
def hsstep (i : grid0.Coords) (x0 : S1x256x2048.Idx → EReal) (C : Fin 3 → Fin 256 → EReal) (o m : Row) (Y : S8x2560.Idx → EReal) : S8x2560.Idx → EReal :=
  fun j => if h : (j 0).val = (i 0).val ∧ 256 * (i 1).val ≤ (j 1).val ∧ (j 1).val < 256 * (i 1).val + 256
    then bhs x0 C o m ⟨(j 1).val - 256 * (i 1).val, by omega⟩ else Y j

section
variable (x0 x1 x2 x3 : S1x256x2048.Idx → EReal) (C : Fin 3 → Fin 256 → EReal) (o m : Row) (S1 S2 : LoopState)
  (h1 : Loop1.Inv x0 x1 x2 x3 C o m 4 S1) (h2 : Loop2.Inv x0 x1 x2 x3 C o m 4 S2) {κ : Kind} {sp : Space}
include h1 h2

/-- The gradient's block. -/
theorem out_dx (v : View sig κ sp S1x256x2048 .bf16) (f : v.ty.Contents (Elt Ideal)) :
    v.read (Elt Ideal) (v.writes (Elt Ideal) f (S2.2.1 ++ S1.2.1)) = bdx x0 x1 x2 C o := by
  funext y
  refine View.read_writes_apply_of_pieces v f (bdx x0 x1 x2 C o) _ ?_ y ?_
  · intro p hp
    rcases List.mem_append.mp hp with hp | hp
    · exact h2.dx p hp
    · exact h1.dx p hp
  · have hy : (y 1).val < 256 := (y 1).isLt
    by_cases hlt : (y 1).val < 128
    · obtain ⟨p, hp, h⟩ := h1.dxc y (by omega) (by omega)
      exact ⟨p, List.mem_append_right _ hp, h⟩
    · obtain ⟨p, hp, h⟩ := h2.dxc y (by omega) (by omega)
      exact ⟨p, List.mem_append_left _ hp, h⟩

/-- The codes' block. -/
theorem out_hq (v : View sig κ sp S1x256x2048 .fp8e4m3) (f : v.ty.Contents (Elt Ideal)) :
    v.read (Elt Ideal) (v.writes (Elt Ideal) f (S2.2.2.1 ++ S1.2.2.1)) = bhq x0 C o m := by
  funext y
  refine View.read_writes_apply_of_pieces v f (bhq x0 C o m) _ ?_ y ?_
  · intro p hp
    rcases List.mem_append.mp hp with hp | hp
    · exact h2.hq p hp
    · exact h1.hq p hp
  · have hy : (y 1).val < 256 := (y 1).isLt
    by_cases hlt : (y 1).val < 128
    · obtain ⟨p, hp, h⟩ := h1.hqc y (by omega) (by omega)
      exact ⟨p, List.mem_append_right _ hp, h⟩
    · obtain ⟨p, hp, h⟩ := h2.hqc y (by omega) (by omega)
      exact ⟨p, List.mem_append_left _ hp, h⟩

omit h2 in
theorem half0_0 (d : Fin 2048) : (∑ q : Fin 8, S1.1.1 (ix2 q d)) = half0 x0 x1 x2 x3 C 0 d := by
  simp only [h1.s0]; exact Loop1.gsum_all x0 x1 x2 x3 C d 0
omit h2 in
theorem half0_1 (d : Fin 2048) : (∑ q : Fin 8, S1.1.2.1 (ix2 q d)) = half0 x0 x1 x2 x3 C 1 d := by
  simp only [h1.s1]; exact Loop1.gsum_all x0 x1 x2 x3 C d 1
omit h2 in
theorem half0_2 (d : Fin 2048) : (∑ q : Fin 8, S1.1.2.2 (ix2 q d)) = half0 x0 x1 x2 x3 C 2 d := by
  simp only [h1.s2]; exact Loop1.gsum_all x0 x1 x2 x3 C d 2
omit h1 in
theorem half1_0 (d : Fin 2048) : (∑ q : Fin 8, S2.1.1 (ix2 q d)) = half1 x0 x1 x2 x3 C 0 d := by
  simp only [h2.s0]; exact Loop2.gsum_all x0 x1 x2 x3 C d 0
omit h1 in
theorem half1_1 (d : Fin 2048) : (∑ q : Fin 8, S2.1.2.1 (ix2 q d)) = half1 x0 x1 x2 x3 C 1 d := by
  simp only [h2.s1]; exact Loop2.gsum_all x0 x1 x2 x3 C d 1
omit h1 in
theorem half1_2 (d : Fin 2048) : (∑ q : Fin 8, S2.1.2.2 (ix2 q d)) = half1 x0 x1 x2 x3 C 2 d := by
  simp only [h2.s2]; exact Loop2.gsum_all x0 x1 x2 x3 C d 2
end

theorem bblk_half (x0 x1 x2 x3 : S1x256x2048.Idx → EReal) (C : Fin 3 → Fin 256 → EReal) (s : Fin 2) (q : Fin 3) (d : Fin 2048) :
    bblk x0 x1 x2 x3 C (ix4 0 s q d) = if s.val = 0 then half0 x0 x1 x2 x3 C q d else half1 x0 x1 x2 x3 C q d := by
  match s with
  | ⟨0, _⟩ =>
    rw [if_pos rfl]
    refine Finset.sum_congr rfl fun l _ => ?_
    exact congrArg (fun z => bdm x0 x1 x2 x3 C q z d) (Fin.ext (by show 0 * 128 + l.val = l.val; omega))
  | ⟨1, _⟩ =>
    rw [if_neg (show ¬ (1 = 0) by decide)]
    refine Finset.sum_congr rfl fun l _ => ?_
    exact congrArg (fun z => bdm x0 x1 x2 x3 C q z d) (Fin.ext (by show 1 * 128 + l.val = 128 + l.val; omega))

/-- Six rows told apart by their two indices. -/
theorem pick6 (s : Fin 2) (q : Fin 3) (H0 H1 : Fin 3 → EReal) (z : EReal) :
    (if s.val = 1 ∧ q.val = 2 then H1 2 else if s.val = 1 ∧ q.val = 1 then H1 1 else if s.val = 1 ∧ q.val = 0 then H1 0
      else if s.val = 0 ∧ q.val = 2 then H0 2 else if s.val = 0 ∧ q.val = 1 then H0 1 else if s.val = 0 ∧ q.val = 0 then H0 0 else z)
      = if s.val = 0 then H0 q else H1 q := by
  fin_cases s <;> fin_cases q <;> rfl

section
variable {κ : Kind} {sp : Space} (v : View sig κ sp S1x2x3x2048 .f32) (f : v.ty.Contents (Elt Ideal))

/-- A row written into the block of block gradients reads back where it was written, and nowhere else. -/
theorem brow_at (s q : ℕ) (inb : ∀ a, (![0, s, q, 0] : Fin 4 → ℕ) a + S1x1x1x2048.size a ≤ S1x2x3x2048.size a)
    (w : S1x1x1x2048.Idx → EReal) (L : List (View.Piece (Elt Ideal) S1x2x3x2048 .f32)) (s' : Fin 2) (q' : Fin 3) (d : Fin 2048) :
    v.read (Elt Ideal) (v.writes (Elt Ideal) f (⟨Rect.unit (s := S1x2x3x2048) ![0, s, q, 0] S1x1x1x2048.size inb, w⟩ :: L)) (ix4 0 s' q' d)
      = if s'.val = s ∧ q'.val = q then w (ix4 0 0 0 d) else v.read (Elt Ideal) (v.writes (Elt Ideal) f L) (ix4 0 s' q' d) := by
  by_cases hs : s'.val = s
  · by_cases hq : q'.val = q
    · rw [if_pos ⟨hs, hq⟩]
      refine View.read_writes_cons_unit_of_mem v f inb w L _ (ix4 0 0 0 d) rfl ?_
      intro a
      match a with
      | ⟨0, _⟩ => rfl
      | ⟨1, _⟩ => exact hs
      | ⟨2, _⟩ => exact hq
      | ⟨3, _⟩ => exact (Nat.zero_add _).symm
    · rw [if_neg fun h => hq h.2]
      refine View.read_writes_cons_unit_of_not_mem v f inb w L _ rfl 2 ?_
      show q'.val < q ∨ q + 1 ≤ q'.val
      omega
  · rw [if_neg fun h => hs h.1]
    refine View.read_writes_cons_unit_of_not_mem v f inb w L _ rfl 1 ?_
    show s'.val < s ∨ s + 1 ≤ s'.val
    omega

variable (x0 x1 x2 x3 : S1x256x2048.Idx → EReal) (C : Fin 3 → Fin 256 → EReal) (o m : Row) (S1 S2 : LoopState)
  (h1 : Loop1.Inv x0 x1 x2 x3 C o m 4 S1) (h2 : Loop2.Inv x0 x1 x2 x3 C o m 4 S2)
include h1 h2

/-- The block of block gradients. -/
theorem out_blk (a0 a1 a2 a3 a4 a5) :
    v.read (Elt Ideal) (v.writes (Elt Ideal) f
      [⟨Rect.unit (s := S1x2x3x2048) ![0, 1, 2, 0] S1x1x1x2048.size a0, k0_pay78 (F := Ideal) S2.1.2.2⟩,
       ⟨Rect.unit (s := S1x2x3x2048) ![0, 1, 1, 0] S1x1x1x2048.size a1, k0_pay75 (F := Ideal) S2.1.2.1⟩,
       ⟨Rect.unit (s := S1x2x3x2048) ![0, 1, 0, 0] S1x1x1x2048.size a2, k0_pay72 (F := Ideal) (k0_pay71 S2.1.1)⟩,
       ⟨Rect.unit (s := S1x2x3x2048) ![0, 0, 2, 0] S1x1x1x2048.size a3, k0_pay59 (F := Ideal) (k0_pay58 S1.1.2.2)⟩,
       ⟨Rect.unit (s := S1x2x3x2048) ![0, 0, 1, 0] S1x1x1x2048.size a4, k0_pay56 (F := Ideal) S1.1.2.1⟩,
       ⟨Rect.unit (s := S1x2x3x2048) ![0, 0, 0, 0] S1x1x1x2048.size a5, k0_pay53 (F := Ideal) S1.1.1⟩]) = bblk x0 x1 x2 x3 C := by
  funext y
  obtain ⟨z, s, q, d, rfl⟩ := ex4 y
  obtain rfl : z = 0 := Fin.ext (by have : z.val < 1 := z.isLt; omega)
  rw [bblk_half]
  rw [brow_at, brow_at, brow_at, brow_at, brow_at, brow_at, pay78_eq, pay75_eq, pay72_eq, pay59_eq, pay56_eq,
    pay53_at, pay53_at, pay53_at, pay53_at, pay53_at, pay53_at,
    half0_0 x0 x1 x2 x3 C o m S1 h1, half0_1 x0 x1 x2 x3 C o m S1 h1, half0_2 x0 x1 x2 x3 C o m S1 h1,
    half1_0 x0 x1 x2 x3 C o m S2 h2, half1_1 x0 x1 x2 x3 C o m S2 h2, half1_2 x0 x1 x2 x3 C o m S2 h2]
  exact pick6 s q (fun q => half0 x0 x1 x2 x3 C q d) (fun q => half1 x0 x1 x2 x3 C q d) _
end

section
variable {κ : Kind} {sp : Space} (v : View sig κ sp S1x3x2048 .f32) (f : v.ty.Contents (Elt Ideal))

/-- A row written into the accumulated gradients reads back where it was written, and nowhere else. -/
theorem drow_at (q : ℕ) (inb : ∀ a, (![0, q, 0] : Fin 3 → ℕ) a + S1x1x2048.size a ≤ S1x3x2048.size a)
    (w : S1x1x2048.Idx → EReal) (L : List (View.Piece (Elt Ideal) S1x3x2048 .f32)) (q' : Fin 3) (d : Fin 2048) :
    v.read (Elt Ideal) (v.writes (Elt Ideal) f (⟨Rect.unit (s := S1x3x2048) ![0, q, 0] S1x1x2048.size inb, w⟩ :: L)) (ix3 0 q' d)
      = if q'.val = q then w (ix3 0 0 d) else v.read (Elt Ideal) (v.writes (Elt Ideal) f L) (ix3 0 q' d) := by
  by_cases hq : q'.val = q
  · rw [if_pos hq]
    refine View.read_writes_cons_unit_of_mem v f inb w L _ (ix3 0 0 d) rfl ?_
    intro a
    match a with
    | ⟨0, _⟩ => rfl
    | ⟨1, _⟩ => exact hq
    | ⟨2, _⟩ => exact (Nat.zero_add _).symm
  · rw [if_neg hq]
    refine View.read_writes_cons_unit_of_not_mem v f inb w L _ rfl 1 ?_
    show q'.val < q ∨ q + 1 ≤ q'.val
    omega

/-- A row read back from the accumulated gradients. -/
theorem drow_ld (q : Fin 3) (inb : ∀ a, (![0, q.val, 0] : Fin 3 → ℕ) a + S1x1x2048.size a ≤ S1x3x2048.size a)
    (g : v.ty.Contents (Elt Ideal)) (d : Fin 2048) :
    View.readAt (Elt Ideal) v (Rect.unit (s := S1x3x2048) ![0, q.val, 0] S1x1x2048.size inb).toLoadRect g (ix3 0 0 d) = v.read (Elt Ideal) g (ix3 0 q d) := by
  show v.read (Elt Ideal) g ((Rect.unit (s := S1x3x2048) ![0, q.val, 0] S1x1x2048.size inb).emb (ix3 0 0 d)) = _
  congr 1
  funext a; apply Fin.ext
  match a with
  | ⟨0, _⟩ => rfl
  | ⟨1, _⟩ => rfl
  | ⟨2, _⟩ => show 0 + 1 * d.val = d.val; omega
end
end Cert.KernelIdeal.Body
-- ==== Proof.Accum.lean ====
/- What one grid point leaves in the two outputs it does not write whole: the accumulated modulation gradients, and
   the array of scales. -/
module
public import proofs.«01_k».proof.Proof.Outputs
@[expose] public section
set_option maxRecDepth 16384
noncomputable section
namespace Cert.KernelIdeal.Body
open Cert.KernelIdeal Cert.KernelIdeal.Gen Idealize.ShloMosaic Idealize.ShloMosaic.TcCoe
open Idealize.ShloMosaic.Tactic Cert.Spec Cert.Quant

section
variable {κ : Kind} {sp : Space} (v : View sig κ sp S1x3x2048 .f32) (f : v.ty.Contents (Elt Ideal))

/-- A row just written reads back; -/
theorem drow_same (q : ℕ) (hq : q < 3) (inb : ∀ a, (![0, q, 0] : Fin 3 → ℕ) a + S1x1x2048.size a ≤ S1x3x2048.size a)
    (w : S1x1x2048.Idx → EReal) (L : List (View.Piece (Elt Ideal) S1x3x2048 .f32)) (d : Fin 2048) :
    v.read (Elt Ideal) (v.writes (Elt Ideal) f (⟨Rect.unit (s := S1x3x2048) ![0, q, 0] S1x1x2048.size inb, w⟩ :: L)) (ix3 0 ⟨q, hq⟩ d) = w (ix3 0 0 d) :=
  (drow_at v f q inb w L ⟨q, hq⟩ d).trans (if_pos rfl)

/-- any other row reads what stood before. -/
theorem drow_ne (q q' : ℕ) (hq' : q' < 3) (h : q' ≠ q) (inb : ∀ a, (![0, q, 0] : Fin 3 → ℕ) a + S1x1x2048.size a ≤ S1x3x2048.size a)
    (w : S1x1x2048.Idx → EReal) (L : List (View.Piece (Elt Ideal) S1x3x2048 .f32)) (d : Fin 2048) :
    v.read (Elt Ideal) (v.writes (Elt Ideal) f (⟨Rect.unit (s := S1x3x2048) ![0, q, 0] S1x1x2048.size inb, w⟩ :: L)) (ix3 0 ⟨q', hq'⟩ d)
      = v.read (Elt Ideal) (v.writes (Elt Ideal) f L) (ix3 0 ⟨q', hq'⟩ d) :=
  (drow_at v f q inb w L ⟨q', hq'⟩ d).trans (if_neg h)

/-- A row loaded. -/
theorem drow_cov (q : ℕ) (hq : q < 3) (inb : ∀ a, (![0, q, 0] : Fin 3 → ℕ) a + S1x1x2048.size a ≤ S1x3x2048.size a)
    (L : List (View.Piece (Elt Ideal) S1x3x2048 .f32)) (d : Fin 2048) :
    View.readCov v L (Rect.unit (s := S1x3x2048) ![0, q, 0] S1x1x2048.size inb).toLoadRect (ix3 0 0 d)
      = v.read (Elt Ideal) (v.writes (Elt Ideal) v.junk L) (ix3 0 ⟨q, hq⟩ d) :=
  drow_ld v ⟨q, hq⟩ inb (v.writes (Elt Ideal) v.junk L) d

/-- The whole buffer just zeroed reads zero. -/
theorem dzero (inb : ∀ a, (![0, 0, 0] : Fin 3 → ℕ) a + S1x3x2048.size a ≤ S1x3x2048.size a) (q : Fin 3) (d : Fin 2048) :
    v.read (Elt Ideal) (v.writes (Elt Ideal) f [⟨Rect.unit (s := S1x3x2048) ![0, 0, 0] S1x3x2048.size inb, k0_pay40 (F := Ideal)⟩]) (ix3 0 q d) = 0 := by
  refine (View.read_writes_cons_unit_of_mem v f inb _ [] _ (ix3 0 q d) rfl ?_).trans (pay40_at q d)
  intro a
  match a with
  | ⟨0, _⟩ => rfl
  | ⟨1, _⟩ => exact (Nat.zero_add _).symm
  | ⟨2, _⟩ => exact (Nat.zero_add _).symm

variable (x0 x1 x2 x3 : S1x256x2048.Idx → EReal) (C : Fin 3 → Fin 256 → EReal) (o m : Row) (S1 S2 : LoopState)
  (h1 : Loop1.Inv x0 x1 x2 x3 C o m 4 S1) (h2 : Loop2.Inv x0 x1 x2 x3 C o m 4 S2)
  (Y : S1x3x2048.Idx → EReal) (W0 W1 W2 : Vec Ideal S1x1x2048 .f32)
  (a0 : ∀ a, (![0, 0, 0] : Fin 3 → ℕ) a + S1x1x2048.size a ≤ S1x3x2048.size a)
  (a1 : ∀ a, (![0, 1, 0] : Fin 3 → ℕ) a + S1x1x2048.size a ≤ S1x3x2048.size a)
  (a2 : ∀ a, (![0, 2, 0] : Fin 3 → ℕ) a + S1x1x2048.size a ≤ S1x3x2048.size a)
  (L0 : List (View.Piece (Elt Ideal) S1x3x2048 .f32))

/-- The writes of the accumulated gradients: three rows after the first loop, three after the second. -/
abbrev DL1 : List (View.Piece (Elt Ideal) S1x3x2048 .f32) := ⟨Rect.unit (s := S1x3x2048) ![0, 0, 0] S1x1x2048.size a0, k0_pay54 (F := Ideal) S1.1.1 W0⟩ :: L0
abbrev DL2 : List (View.Piece (Elt Ideal) S1x3x2048 .f32) := ⟨Rect.unit (s := S1x3x2048) ![0, 1, 0] S1x1x2048.size a1, k0_pay57 (F := Ideal) S1.1.2.1 W1⟩ :: DL1 S1 W0 a0 L0
abbrev DL3 : List (View.Piece (Elt Ideal) S1x3x2048 .f32) := ⟨Rect.unit (s := S1x3x2048) ![0, 2, 0] S1x1x2048.size a2, k0_pay60 (F := Ideal) (k0_pay58 S1.1.2.2) W2⟩ :: DL2 S1 W0 W1 a0 a1 L0
abbrev DL4 : List (View.Piece (Elt Ideal) S1x3x2048 .f32) := ⟨Rect.unit (s := S1x3x2048) ![0, 0, 0] S1x1x2048.size a0, k0_pay73 (F := Ideal) (k0_pay71 S2.1.1) (View.readCov v (DL3 S1 W0 W1 W2 a0 a1 a2 L0) (Rect.unit (s := S1x3x2048) ![0, 0, 0] S1x1x2048.size a0).toLoadRect)⟩ :: DL3 S1 W0 W1 W2 a0 a1 a2 L0
abbrev DL5 : List (View.Piece (Elt Ideal) S1x3x2048 .f32) := ⟨Rect.unit (s := S1x3x2048) ![0, 1, 0] S1x1x2048.size a1, k0_pay76 (F := Ideal) S2.1.2.1 (View.readCov v (DL4 v S1 S2 W0 W1 W2 a0 a1 a2 L0) (Rect.unit (s := S1x3x2048) ![0, 1, 0] S1x1x2048.size a1).toLoadRect)⟩ :: DL4 v S1 S2 W0 W1 W2 a0 a1 a2 L0
abbrev DL6 : List (View.Piece (Elt Ideal) S1x3x2048 .f32) := ⟨Rect.unit (s := S1x3x2048) ![0, 2, 0] S1x1x2048.size a2, k0_pay1 (F := Ideal) (k0_pay79 S2.1.2.2 (View.readCov v (DL5 v S1 S2 W0 W1 W2 a0 a1 a2 L0) (Rect.unit (s := S1x3x2048) ![0, 2, 0] S1x1x2048.size a2).toLoadRect))⟩ :: DL5 v S1 S2 W0 W1 W2 a0 a1 a2 L0

include h1 h2
/-- The accumulated gradients, from what the first three loads hold. -/
theorem out_dm (hW0 : ∀ d, W0 (ix3 0 0 d) = Y (ix3 0 0 d)) (hW1 : ∀ d, W1 (ix3 0 0 d) = Y (ix3 0 1 d)) (hW2 : ∀ d, W2 (ix3 0 0 d) = Y (ix3 0 2 d)) :
    v.read (Elt Ideal) (v.writes (Elt Ideal) f (DL6 v S1 S2 W0 W1 W2 a0 a1 a2 L0)) = dmstep x0 x1 x2 x3 C Y := by
  funext y
  obtain ⟨z, q, d, rfl⟩ := ex3 y
  obtain rfl : z = 0 := Fin.ext (by have : z.val < 1 := z.isLt; omega)
  match q with
  | ⟨0, hq⟩ =>
    rw [drow_ne v f 2 0 hq (by decide), drow_ne v f 1 0 hq (by decide), drow_same v f 0 hq, pay73_eq, pay54_at, drow_cov v 0 hq,
      drow_ne v _ 2 0 hq (by decide), drow_ne v _ 1 0 hq (by decide), drow_same v _ 0 hq, pay54_at, hW0,
      half0_0 x0 x1 x2 x3 C o m S1 h1, half1_0 x0 x1 x2 x3 C o m S2 h2]
    rfl
  | ⟨1, hq⟩ =>
    rw [drow_ne v f 2 1 hq (by decide), drow_same v f 1 hq, pay76_eq, pay54_at, drow_cov v 1 hq, drow_ne v _ 0 1 hq (by decide),
      drow_ne v _ 2 1 hq (by decide), drow_same v _ 1 hq, pay57_eq, pay54_at, hW1,
      half0_1 x0 x1 x2 x3 C o m S1 h1, half1_1 x0 x1 x2 x3 C o m S2 h2]
    rfl
  | ⟨2, hq⟩ =>
    rw [drow_same v f 2 hq, pay79_eq, pay54_at, drow_cov v 2 hq, drow_ne v _ 1 2 hq (by decide), drow_ne v _ 0 2 hq (by decide),
      drow_same v _ 2 hq, pay60_eq, pay54_at, hW2,
      half0_2 x0 x1 x2 x3 C o m S1 h1, half1_2 x0 x1 x2 x3 C o m S2 h2]
    rfl

/-- At a batch's first point: the buffer is zeroed first. -/
theorem out_dmA (z0 : ∀ a, (![0, 0, 0] : Fin 3 → ℕ) a + S1x3x2048.size a ≤ S1x3x2048.size a)
    (hL : L0 = [⟨Rect.unit (s := S1x3x2048) ![0, 0, 0] S1x3x2048.size z0, k0_pay40 (F := Ideal)⟩])
    (hW0 : W0 = View.readCov v L0 (Rect.unit (s := S1x3x2048) ![0, 0, 0] S1x1x2048.size a0).toLoadRect)
    (hW1 : W1 = View.readCov v (DL1 S1 W0 a0 L0) (Rect.unit (s := S1x3x2048) ![0, 1, 0] S1x1x2048.size a1).toLoadRect)
    (hW2 : W2 = View.readCov v (DL2 S1 W0 W1 a0 a1 L0) (Rect.unit (s := S1x3x2048) ![0, 2, 0] S1x1x2048.size a2).toLoadRect) :
    v.read (Elt Ideal) (v.writes (Elt Ideal) f (DL6 v S1 S2 W0 W1 W2 a0 a1 a2 L0)) = dmstep x0 x1 x2 x3 C (fun _ => 0) := by
  refine out_dm v f x0 x1 x2 x3 C o m S1 S2 h1 h2 _ W0 W1 W2 a0 a1 a2 L0 (fun d => ?_) (fun d => ?_) (fun d => ?_)
  · rw [hW0, drow_cov v 0 (by decide), hL, dzero]
  · rw [hW1, drow_cov v 1 (by decide), drow_ne v _ 0 1 (by decide) (by decide), hL, dzero]
  · rw [hW2, drow_cov v 2 (by decide), drow_ne v _ 1 2 (by decide) (by decide), drow_ne v _ 0 2 (by decide) (by decide), hL, dzero]
end

section
theorem pay50_at (V : Vec Ideal S128x128 .f32) (b : Fin 8) (l : Fin 128) : k0_pay50 V (ix2 b l) = V (ix2 l ⟨b.val, by omega⟩) := by
  pointwise [k0_pay50]
theorem pay69_at (V : Vec Ideal S128x128 .f32) (b : Fin 8) (l : Fin 128) : k0_pay69 V (ix2 b l) = V (ix2 l ⟨b.val, by omega⟩) := pay50_at V b l

theorem mask_at (a : Fin 8) (b : Fin 8) (l : Fin 128) :
    (ix2 b l : S8x128.Idx) ∈ IVec.on (k0_pay70 (BitVec.ofNat 32 a.val)) ↔ b.val = a.val := by
  have h : k0_pay70 (BitVec.ofNat 32 a.val) (ix2 b l) = if b.val = a.val then 1 else 0 := by
    pointwise [k0_pay70]
    exact (by decide +kernel : ∀ a b : Fin 8, IntOp.cmpi CmpIPredicate.eq (BitVec.ofNat 32 b.val) (BitVec.ofNat 32 a.val) = if b.val = a.val then 1 else 0) a b
  simp only [IVec.on, Finset.mem_filter, Finset.mem_univ, true_and, h]
  by_cases e : b.val = a.val <;> simp [e]
theorem mask0_at (a : Fin 8) (b : Fin 8) (l : Fin 128) :
    (ix2 b l : S8x128.Idx) ∈ IVec.on (k0_pay51 (k0_pay49 (BitVec.ofNat 32 a.val))) ↔ b.val = a.val := mask_at a b l
end

section
variable (i : grid0.Coords) (x0 x1 x2 x3 : S1x256x2048.Idx → EReal) (C : Fin 3 → Fin 256 → EReal) (o m : Row) (S1 S2 : LoopState)
  (h1 : Loop1.Inv x0 x1 x2 x3 C o m 4 S1) (h2 : Loop2.Inv x0 x1 x2 x3 C o m 4 S2)
  {κ : Kind} {sp : Space} (v17 : View sig κ sp S128x128 .f32) (f17 : v17.ty.Contents (Elt Ideal))
  (z : ∀ a, (![0, 0] : Fin 2 → ℕ) a + S128x128.size a ≤ S128x128.size a)

include h1 in
/-- The scratch the first loop fills, loaded whole: one row's scale along each of its rows. -/
theorem scale0 (l n : Fin 128) :
    View.readAt (Elt Ideal) v17 (Rect.unit (s := S128x128) ![0, 0] S128x128.size z).toLoadRect (v17.writes (Elt Ideal) f17 S1.2.2.2) (ix2 l n)
      = bhs x0 C o m (lo l) := by
  have e : (Rect.unit (s := S128x128) ![0, 0] S128x128.size z).emb (ix2 l n) = ix2 l n := by
    funext a; apply Fin.ext
    match a with
    | ⟨0, _⟩ => show 0 + 1 * l.val = l.val; omega
    | ⟨1, _⟩ => show 0 + 1 * n.val = n.val; omega
  show v17.read (Elt Ideal) (v17.writes (Elt Ideal) f17 S1.2.2.2) ((Rect.unit (s := S128x128) ![0, 0] S128x128.size z).emb (ix2 l n)) = _
  rw [e]
  exact View.read_writes_apply_of_pieces v17 f17 (fun y => bhs x0 C o m ⟨(y 0).val, by have h : (y 0).val < 128 := (y 0).isLt; omega⟩)
    S1.2.2.2 h1.hs (ix2 l n) (h1.hsc _ l.isLt)

include h2 in
/-- And after the second loop. -/
theorem scale1 (l n : Fin 128) :
    View.readAt (Elt Ideal) v17 (Rect.unit (s := S128x128) ![0, 0] S128x128.size z).toLoadRect (v17.writes (Elt Ideal) f17 (S2.2.2.2 ++ S1.2.2.2)) (ix2 l n)
      = bhs x0 C o m (hi l) := by
  have e : (Rect.unit (s := S128x128) ![0, 0] S128x128.size z).emb (ix2 l n) = ix2 l n := by
    funext a; apply Fin.ext
    match a with
    | ⟨0, _⟩ => show 0 + 1 * l.val = l.val; omega
    | ⟨1, _⟩ => show 0 + 1 * n.val = n.val; omega
  show v17.read (Elt Ideal) (v17.writes (Elt Ideal) f17 (S2.2.2.2 ++ S1.2.2.2)) ((Rect.unit (s := S128x128) ![0, 0] S128x128.size z).emb (ix2 l n)) = _
  rw [e, View.writes_append]
  exact View.read_writes_apply_of_pieces v17 _ (fun y => bhs x0 C o m ⟨128 + (y 0).val, by have h : (y 0).val < 128 := (y 0).isLt; omega⟩)
    S2.2.2.2 h2.hs (ix2 l n) (h2.hsc _ l.isLt)

variable (v : View sig κ sp S8x2560 .f32) (f : v.ty.Contents (Elt Ideal)) (w : S8x128.Idx → EReal) (M : Finset S8x128.Idx)
  (hM : ∀ b l, (ix2 b l : S8x128.Idx) ∈ M ↔ b.val = (i 0).val)
include hM

/-- A masked store of the first 128 lanes: the batch's row is replaced there, all else stays. -/
theorem masked0 (b : Fin 8) (n : Fin 2560) :
    v.read (Elt Ideal) ((v.slice (RL0 i)).write (Elt Ideal) f w M) (ix2 b n)
      = if h : b.val = (i 0).val ∧ 256 * (i 1).val ≤ n.val ∧ n.val < 256 * (i 1).val + 128
        then w (ix2 b ⟨n.val - 256 * (i 1).val, by omega⟩) else v.read (Elt Ideal) f (ix2 b n) := by
  split_ifs with h
  · have e : (ix2 b n : S8x2560.Idx) = (RL0 i).emb (ix2 b ⟨n.val - 256 * (i 1).val, by omega⟩) := by
      rw [embL0]; congr 1; apply Fin.ext
      show n.val = 256 * (i 1).val + (n.val - 256 * (i 1).val); omega
    rw [e]
    exact View.read_slice_write_emb (RL0 i) f w ((hM _ _).mpr h.1)
  · refine View.read_slice_write_of_not_mem (RL0 i) f w M fun hm => h ?_
    obtain ⟨x, hx, he⟩ := Finset.mem_map.mp hm
    obtain ⟨b', l, rfl⟩ := ex2 x
    rw [embL0] at he
    have e0 : b' = b := congrFun he 0
    have e1 : (lane i (lo l)).val = n.val := congrArg Fin.val (congrFun he 1)
    have e2 : 256 * (i 1).val + l.val = n.val := e1
    subst e0
    exact ⟨(hM _ _).mp hx, by omega, by omega⟩

/-- A masked store of the last 128 lanes. -/
theorem masked1 (b : Fin 8) (n : Fin 2560) :
    v.read (Elt Ideal) ((v.slice (RL1 i)).write (Elt Ideal) f w M) (ix2 b n)
      = if h : b.val = (i 0).val ∧ 256 * (i 1).val + 128 ≤ n.val ∧ n.val < 256 * (i 1).val + 256
        then w (ix2 b ⟨n.val - (256 * (i 1).val + 128), by omega⟩) else v.read (Elt Ideal) f (ix2 b n) := by
  split_ifs with h
  · have e : (ix2 b n : S8x2560.Idx) = (RL1 i).emb (ix2 b ⟨n.val - (256 * (i 1).val + 128), by omega⟩) := by
      rw [embL1]; congr 1; apply Fin.ext
      show n.val = 256 * (i 1).val + (128 + (n.val - (256 * (i 1).val + 128))); omega
    rw [e]
    exact View.read_slice_write_emb (RL1 i) f w ((hM _ _).mpr h.1)
  · refine View.read_slice_write_of_not_mem (RL1 i) f w M fun hm => h ?_
    obtain ⟨x, hx, he⟩ := Finset.mem_map.mp hm
    obtain ⟨b', l, rfl⟩ := ex2 x
    rw [embL1] at he
    have e0 : b' = b := congrFun he 0
    have e1 : (lane i (hi l)).val = n.val := congrArg Fin.val (congrFun he 1)
    have e2 : 256 * (i 1).val + (128 + l.val) = n.val := e1
    subst e0
    exact ⟨(hM _ _).mp hx, by omega, by omega⟩
end

section
variable (i : grid0.Coords) (x0 x1 x2 x3 : S1x256x2048.Idx → EReal) (C : Fin 3 → Fin 256 → EReal) (o m : Row) (S1 S2 : LoopState)
  (h1 : Loop1.Inv x0 x1 x2 x3 C o m 4 S1) (h2 : Loop2.Inv x0 x1 x2 x3 C o m 4 S2)
  (arg17 : Memref sig .tc .vmem S128x128 .f32) (f17 : arg17.view.ty.Contents (Elt Ideal))
  (z z' : ∀ a, (![0, 0] : Fin 2 → ℕ) a + S128x128.size a ≤ S128x128.size a)
  (arg15 : Memref sig .tc .vmem S8x2560 .f32) (harg15 : arg15.IsWhole) (Y : Vec Ideal S8x2560 .f32)
include h1 h2

/-- The array of scales. -/
theorem out_hs :
    arg15.view.read (Elt Ideal) (View.write (Elt Ideal) (arg15.access (RL1 i))
      (View.write (Elt Ideal) (arg15.access (RL0 i)) (harg15.unread Y)
        (k0_pay50 (F := Ideal) (View.readAt (Elt Ideal) arg17.view (Rect.unit (s := S128x128) ![0, 0] S128x128.size z).toLoadRect (arg17.view.writes (Elt Ideal) f17 S1.2.2.2)))
        (IVec.on (k0_pay51 (k0_pay49 (BitVec.ofNat 32 (i 0).val)))))
      (k0_pay69 (F := Ideal) (View.readAt (Elt Ideal) arg17.view (Rect.unit (s := S128x128) ![0, 0] S128x128.size z').toLoadRect (arg17.view.writes (Elt Ideal) f17 (S2.2.2.2 ++ S1.2.2.2))))
      (IVec.on (k0_pay70 (BitVec.ofNat 32 (i 0).val))))
      = hsstep i x0 C o m Y := by
  funext y
  obtain ⟨b, n, rfl⟩ := ex2 y
  refine (masked1 i arg15.view _ _ _ (mask_at (i 0)) b n).trans ?_
  show _ = dite (b.val = (i 0).val ∧ 256 * (i 1).val ≤ n.val ∧ n.val < 256 * (i 1).val + 256)
    (fun h => bhs x0 C o m ⟨n.val - 256 * (i 1).val, by omega⟩) (fun _ => Y (ix2 b n))
  by_cases h : b.val = (i 0).val ∧ 256 * (i 1).val + 128 ≤ n.val ∧ n.val < 256 * (i 1).val + 256
  · rw [dif_pos h, dif_pos ⟨h.1, by omega, h.2.2⟩, pay69_at, scale1 x0 x1 x2 x3 C o m S1 S2 h2]
    congr 1
    apply Fin.ext
    show 128 + (n.val - (256 * (i 1).val + 128)) = n.val - 256 * (i 1).val
    omega
  · rw [dif_neg h]
    refine (masked0 i arg15.view _ _ _ (mask0_at (i 0)) b n).trans ?_
    by_cases h' : b.val = (i 0).val ∧ 256 * (i 1).val ≤ n.val ∧ n.val < 256 * (i 1).val + 128
    · rw [dif_pos h', dif_pos ⟨h'.1, h'.2.1, by omega⟩, pay50_at, scale0 x0 x1 x2 x3 C o m S1 h1]
      rfl
    · rw [dif_neg h', dif_neg (by omega), harg15.read_unread]
end
end Cert.KernelIdeal.Body
-- ==== Proof.Data.lean ====
/- What the kernel leaves in each output buffer at each grid point, as the data of the pipelined run. -/
module

public import proofs.«01_k».proof.Proof.Scaffold
public import proofs.«01_k».proof.Proof.Accum
public import Idealize.ShloMosaic.Lib.Claim

@[expose] public section

-- membership in a rectangle of production extents: the elaborator's structural look recurses once per coordinate
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

/-- The arrays as the pipelined region finds them; after the body at point `t` each input's buffer still at its block.
    Of the output buffers nothing is named here: `ovr` says what they hold. -/
def dats (_ : Fin 1) (c : Dev nD) : Dat τ (Elt Idealize.ShloMosaic.Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The arrays of the data are the arrays the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-! Each input buffer holds its block when the body starts, at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! What the body leaves in the output buffers at point `t`; for two of them it depends on what it found there (`Y`). -/

def out9 (c : Dev nD) (t : Fin cfg0.N) : Vec Idealize.ShloMosaic.Ideal S1x256x2048 .bf16 :=
  bdx (iblk m c 0 t) (iblk m c 1 t) (iblk m c 2 t) (colsOf (grid0.coords t) (iblk m c 4 t) (iblk m c 5 t) (iblk m c 6 t)) (orow (grid0.coords t) (iblk m c 7 t))

def out10 (c : Dev nD) (t : Fin cfg0.N) (Y : Vec Idealize.ShloMosaic.Ideal S1x3x2048 .f32) : Vec Idealize.ShloMosaic.Ideal S1x3x2048 .f32 :=
  dmstep (iblk m c 0 t) (iblk m c 1 t) (iblk m c 2 t) (iblk m c 3 t) (colsOf (grid0.coords t) (iblk m c 4 t) (iblk m c 5 t) (iblk m c 6 t)) (if t.val % 10 = 0 then fun _ => (0 : EReal) else Y)

def out11 (c : Dev nD) (t : Fin cfg0.N) : Vec Idealize.ShloMosaic.Ideal S1x2x3x2048 .f32 :=
  bblk (iblk m c 0 t) (iblk m c 1 t) (iblk m c 2 t) (iblk m c 3 t) (colsOf (grid0.coords t) (iblk m c 4 t) (iblk m c 5 t) (iblk m c 6 t))

def out12 (c : Dev nD) (t : Fin cfg0.N) : Vec Idealize.ShloMosaic.Ideal S1x256x2048 .fp8e4m3 :=
  bhq (iblk m c 0 t) (colsOf (grid0.coords t) (iblk m c 4 t) (iblk m c 5 t) (iblk m c 6 t)) (orow (grid0.coords t) (iblk m c 7 t)) (mrow (grid0.coords t) (iblk m c 8 t))

def out13 (c : Dev nD) (t : Fin cfg0.N) (Y : Vec Idealize.ShloMosaic.Ideal S8x2560 .f32) : Vec Idealize.ShloMosaic.Ideal S8x2560 .f32 :=
  hsstep (grid0.coords t) (iblk m c 0 t) (colsOf (grid0.coords t) (iblk m c 4 t) (iblk m c 5 t) (iblk m c 6 t)) (orow (grid0.coords t) (iblk m c 7 t)) (mrow (grid0.coords t) (iblk m c 8 t)) Y

/-- What the body may leave in an output buffer at a point, given what it found there. -/
def ovr (c : Dev nD) : (w : Fin cfg0.W) → Option (Fin cfg0.N →
    ((Y X : (cfg0.win w).block.Idx → Elt Idealize.ShloMosaic.Ideal (cfg0.win w).elt) → Prop))
  | ⟨0, _⟩ => none
  | ⟨1, _⟩ => none
  | ⟨2, _⟩ => none
  | ⟨3, _⟩ => none
  | ⟨4, _⟩ => none
  | ⟨5, _⟩ => none
  | ⟨6, _⟩ => none
  | ⟨7, _⟩ => none
  | ⟨8, _⟩ => none
  | ⟨9, _⟩ => some fun t _ X => X = out9 m c t
  | ⟨10, _⟩ => some fun t Y X => X = out10 m c t Y
  | ⟨11, _⟩ => some fun t _ X => X = out11 m c t
  | ⟨12, _⟩ => some fun t _ X => X = out12 m c t
  | ⟨13, _⟩ => some fun t Y X => X = out13 m c t Y

/-- The data of the run: the inputs' blocks, and the outputs by `ovr`. -/
def rd (c : Dev nD) : RDat τ (Elt Idealize.ShloMosaic.Ideal) Unit ℕ (UR sig nD τ) ℕ cfg0 c :=
  (dats m 0 c).toR.override (ovr m c)

theorem found0 (c : Dev nD) (t : Fin cfg0.N) (X) (h : (rd m c).Finds 0 t X) : X = iblk m c 0 t := by
  obtain ⟨d, hd⟩ := (dats m 0 c).toR_finds 0 t X ((RDat.override_finds _ rfl t X).mp h)
  exact hd.trans (before0_0 m c t d)
theorem keep0 (c : Dev nD) (t : Fin cfg0.N) (Y) : (rd m c).after 0 t Y (iblk m c 0 t) :=
  (Dat.Leaves.live_iff (dat := dats m 0 c) (w := 0) (t := t) (Or.inl rfl)).mpr (after0_0 m c t).symm
theorem found1 (c : Dev nD) (t : Fin cfg0.N) (X) (h : (rd m c).Finds 1 t X) : X = iblk m c 1 t := by
  obtain ⟨d, hd⟩ := (dats m 0 c).toR_finds 1 t X ((RDat.override_finds _ rfl t X).mp h)
  exact hd.trans (before0_1 m c t d)
theorem keep1 (c : Dev nD) (t : Fin cfg0.N) (Y) : (rd m c).after 1 t Y (iblk m c 1 t) :=
  (Dat.Leaves.live_iff (dat := dats m 0 c) (w := 1) (t := t) (Or.inl rfl)).mpr (after0_1 m c t).symm
theorem found2 (c : Dev nD) (t : Fin cfg0.N) (X) (h : (rd m c).Finds 2 t X) : X = iblk m c 2 t := by
  obtain ⟨d, hd⟩ := (dats m 0 c).toR_finds 2 t X ((RDat.override_finds _ rfl t X).mp h)
  exact hd.trans (before0_2 m c t d)
theorem keep2 (c : Dev nD) (t : Fin cfg0.N) (Y) : (rd m c).after 2 t Y (iblk m c 2 t) :=
  (Dat.Leaves.live_iff (dat := dats m 0 c) (w := 2) (t := t) (Or.inl rfl)).mpr (after0_2 m c t).symm
theorem found3 (c : Dev nD) (t : Fin cfg0.N) (X) (h : (rd m c).Finds 3 t X) : X = iblk m c 3 t := by
  obtain ⟨d, hd⟩ := (dats m 0 c).toR_finds 3 t X ((RDat.override_finds _ rfl t X).mp h)
  exact hd.trans (before0_3 m c t d)
theorem keep3 (c : Dev nD) (t : Fin cfg0.N) (Y) : (rd m c).after 3 t Y (iblk m c 3 t) :=
  (Dat.Leaves.live_iff (dat := dats m 0 c) (w := 3) (t := t) (Or.inl rfl)).mpr (after0_3 m c t).symm
theorem found4 (c : Dev nD) (t : Fin cfg0.N) (X) (h : (rd m c).Finds 4 t X) : X = iblk m c 4 t := by
  obtain ⟨d, hd⟩ := (dats m 0 c).toR_finds 4 t X ((RDat.override_finds _ rfl t X).mp h)
  exact hd.trans (before0_4 m c t d)
theorem keep4 (c : Dev nD) (t : Fin cfg0.N) (Y) : (rd m c).after 4 t Y (iblk m c 4 t) :=
  (Dat.Leaves.live_iff (dat := dats m 0 c) (w := 4) (t := t) (Or.inl rfl)).mpr (after0_4 m c t).symm
theorem found5 (c : Dev nD) (t : Fin cfg0.N) (X) (h : (rd m c).Finds 5 t X) : X = iblk m c 5 t := by
  obtain ⟨d, hd⟩ := (dats m 0 c).toR_finds 5 t X ((RDat.override_finds _ rfl t X).mp h)
  exact hd.trans (before0_5 m c t d)
theorem keep5 (c : Dev nD) (t : Fin cfg0.N) (Y) : (rd m c).after 5 t Y (iblk m c 5 t) :=
  (Dat.Leaves.live_iff (dat := dats m 0 c) (w := 5) (t := t) (Or.inl rfl)).mpr (after0_5 m c t).symm
theorem found6 (c : Dev nD) (t : Fin cfg0.N) (X) (h : (rd m c).Finds 6 t X) : X = iblk m c 6 t := by
  obtain ⟨d, hd⟩ := (dats m 0 c).toR_finds 6 t X ((RDat.override_finds _ rfl t X).mp h)
  exact hd.trans (before0_6 m c t d)
theorem keep6 (c : Dev nD) (t : Fin cfg0.N) (Y) : (rd m c).after 6 t Y (iblk m c 6 t) :=
  (Dat.Leaves.live_iff (dat := dats m 0 c) (w := 6) (t := t) (Or.inl rfl)).mpr (after0_6 m c t).symm
theorem found7 (c : Dev nD) (t : Fin cfg0.N) (X) (h : (rd m c).Finds 7 t X) : X = iblk m c 7 t := by
  obtain ⟨d, hd⟩ := (dats m 0 c).toR_finds 7 t X ((RDat.override_finds _ rfl t X).mp h)
  exact hd.trans (before0_7 m c t d)
theorem keep7 (c : Dev nD) (t : Fin cfg0.N) (Y) : (rd m c).after 7 t Y (iblk m c 7 t) :=
  (Dat.Leaves.live_iff (dat := dats m 0 c) (w := 7) (t := t) (Or.inl rfl)).mpr (after0_7 m c t).symm
theorem found8 (c : Dev nD) (t : Fin cfg0.N) (X) (h : (rd m c).Finds 8 t X) : X = iblk m c 8 t := by
  obtain ⟨d, hd⟩ := (dats m 0 c).toR_finds 8 t X ((RDat.override_finds _ rfl t X).mp h)
  exact hd.trans (before0_8 m c t d)
theorem keep8 (c : Dev nD) (t : Fin cfg0.N) (Y) : (rd m c).after 8 t Y (iblk m c 8 t) :=
  (Dat.Leaves.live_iff (dat := dats m 0 c) (w := 8) (t := t) (Or.inl rfl)).mpr (after0_8 m c t).symm
theorem left9 (c : Dev nD) (t : Fin cfg0.N) (Y X) : (rd m c).after 9 t Y X ↔ X = out9 m c t := Iff.rfl
theorem left10 (c : Dev nD) (t : Fin cfg0.N) (Y X) : (rd m c).after 10 t Y X ↔ X = out10 m c t Y := Iff.rfl
theorem left11 (c : Dev nD) (t : Fin cfg0.N) (Y X) : (rd m c).after 11 t Y X ↔ X = out11 m c t := Iff.rfl
theorem left12 (c : Dev nD) (t : Fin cfg0.N) (Y X) : (rd m c).after 12 t Y X ↔ X = out12 m c t := Iff.rfl
theorem left13 (c : Dev nD) (t : Fin cfg0.N) (Y X) : (rd m c).after 13 t Y X ↔ X = out13 m c t Y := Iff.rfl

end Cert.KernelIdeal.Body

end
-- ==== Proof.Blocks.lean ====
/- The staged blocks of each grid point, and what the kernel leaves in the output buffers there, in the functions of
   Spec.lean over the argument arrays. -/
module

public import proofs.«01_k».proof.Proof.Data
public import Idealize.ShloMosaic.Lib.Pipeline.ValueKit.Geometry

@[expose] public section

-- membership in a rectangle of production extents: the elaborator's structural look recurses once per coordinate
set_option maxRecDepth 16384

noncomputable section

namespace Cert.KernelIdeal.Body

open Cert.KernelIdeal.Gen Cert.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

/-- The argument arrays of core `c`. -/
def args (c : Dev nD) : Args :=
  argsOf (V m c main_arg0) (V m c main_arg1) (V m c main_arg2) (V m c main_arg3) (V m c main_arg4) (V m c main_arg5) (V m c main_arg6) (V m c main_arg7) (V m c main_arg8)

/-- The batch of a grid point, and its row `R` of 256. -/
def bat (t : Fin cfg0.N) : Fin 8 := ⟨t.val / 10, by have h := Nat.lt_of_lt_of_eq t.isLt N_0; omega⟩
def rows (t : Fin cfg0.N) (R : Fin 256) : Fin 2560 := ⟨256 * (t.val % 10) + R.val, by omega⟩

theorem c0 (t : Fin cfg0.N) : (grid0.coords t 0).val = t.val / 10 := by
  have ht : t.val < 80 := Nat.lt_of_lt_of_eq t.isLt N_0
  have e : (grid0.coords t 0).val = t.val / 10 % 8 := Pipeline.Grid.coords_val t 0 (by decide) rfl
  omega
theorem c1 (t : Fin cfg0.N) : (grid0.coords t 1).val = t.val % 10 := by
  have e : (grid0.coords t 1).val = t.val / 1 % 10 := Pipeline.Grid.coords_val t 1 (by decide) rfl
  omega

theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![(grid0.coords t 0).val, (grid0.coords t 1).val, 0] :=
  (by decide +kernel : ∀ t : Fin grid0.N, _)
theorem idx2 : ∀ t : Fin cfg0.N, win0_2.index t = ![(grid0.coords t 0).val, (grid0.coords t 1).val, 0] :=
  (by decide +kernel : ∀ t : Fin grid0.N, _)
theorem idx3 : ∀ t : Fin cfg0.N, win0_3.index t = ![(grid0.coords t 0).val, (grid0.coords t 1).val, 0] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![0, 0] :=
  (by decide +kernel : ∀ t : Fin grid0.N, _)

theorem blk0 (c : Dev nD) (t : Fin cfg0.N) (R : Fin 256) (d : Fin 2048) :
    iblk m c 0 t (ix3 0 R d) = (args m c).x (bat t) (rows t R) d := by
  blk_simp [iblk]
  refine congrArg (V m c main_arg0) ?_
  blk_ext [idx0 t, c0 t, c1 t, bat, rows]

theorem blk1 (c : Dev nD) (t : Fin cfg0.N) (R : Fin 256) (d : Fin 2048) :
    iblk m c 1 t (ix3 0 R d) = (args m c).dy (bat t) (rows t R) d := by
  blk_simp [iblk]
  refine congrArg (V m c main_arg3) ?_
  blk_ext [idx1 t, c0 t, c1 t, bat, rows]

theorem blk2 (c : Dev nD) (t : Fin cfg0.N) (R : Fin 256) (d : Fin 2048) :
    iblk m c 2 t (ix3 0 R d) = (args m c).dh (bat t) (rows t R) d := by
  blk_simp [iblk]
  refine congrArg (V m c main_arg5) ?_
  blk_ext [idx2 t, c0 t, c1 t, bat, rows]

theorem blk3 (c : Dev nD) (t : Fin cfg0.N) (R : Fin 256) (d : Fin 2048) :
    iblk m c 3 t (ix3 0 R d) = (args m c).f (bat t) (rows t R) d := by
  blk_simp [iblk]
  refine congrArg (V m c main_arg2) ?_
  blk_ext [idx3 t, c0 t, c1 t, bat, rows]

theorem blk4 (c : Dev nD) (t : Fin cfg0.N) (b : Fin 8) (r : Fin 2560) :
    iblk m c 4 t (ix2 b r) = (args m c).xs b r := by
  blk_simp [iblk]
  refine congrArg (V m c main_arg1) ?_
  blk_ext [idx4 t]

theorem blk5 (c : Dev nD) (t : Fin cfg0.N) (b : Fin 8) (r : Fin 2560) :
    iblk m c 5 t (ix2 b r) = (args m c).dys b r := by
  blk_simp [iblk]
  refine congrArg (V m c main_arg4) ?_
  blk_ext [idx5 t]

theorem blk6 (c : Dev nD) (t : Fin cfg0.N) (b : Fin 8) (r : Fin 2560) :
    iblk m c 6 t (ix2 b r) = (args m c).dhs b r := by
  blk_simp [iblk]
  refine congrArg (V m c main_arg6) ?_
  blk_ext [idx6 t]

theorem blk7 (c : Dev nD) (t : Fin cfg0.N) (b : Fin 8) (r : Fin 2048) :
    iblk m c 7 t (ix2 b r) = (args m c).ms b r := by
  blk_simp [iblk]
  refine congrArg (V m c main_arg7) ?_
  blk_ext [idx7 t]

theorem blk8 (c : Dev nD) (t : Fin cfg0.N) (b : Fin 8) (r : Fin 2048) :
    iblk m c 8 t (ix2 b r) = (args m c).mh b r := by
  blk_simp [iblk]
  refine congrArg (V m c main_arg8) ?_
  blk_ext [idx8 t]

end Cert.KernelIdeal.Body

end
-- ==== Proof.Values.lean ====
/- What the kernel leaves in the output buffers at each grid point, in the functions of Spec.lean over the argument
   arrays. -/
module

public import proofs.«01_k».proof.Proof.Blocks

@[expose] public section

-- membership in a rectangle of production extents: the elaborator's structural look recurses once per coordinate
set_option maxRecDepth 16384

noncomputable section

namespace Cert.KernelIdeal.Body

open Cert.KernelIdeal.Gen Cert.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

/-- The three columns of scales at a grid point. -/
abbrev C3 (c : Dev nD) (t : Fin cfg0.N) : Fin 3 → Fin 256 → EReal :=
  colsOf (grid0.coords t) (iblk m c 4 t) (iblk m c 5 t) (iblk m c 6 t)

theorem bat_eq (t : Fin cfg0.N) : (grid0.coords t 0 : Fin 8) = bat t := Fin.ext (c0 t)
theorem lane_eq (t : Fin cfg0.N) (R : Fin 256) : lane (grid0.coords t) R = rows t R := by
  apply Fin.ext
  show 256 * (grid0.coords t 1).val + R.val = 256 * (t.val % 10) + R.val
  rw [c1]

theorem C0_eq (c : Dev nD) (t : Fin cfg0.N) (R : Fin 256) : C3 m c t 0 R = (args m c).xs (bat t) (rows t R) := by
  refine Eq.trans ?_ (blk4 m c t (bat t) (rows t R))
  show iblk m c 4 t (ix2 (grid0.coords t 0 : Fin 8) (lane (grid0.coords t) R)) = _
  rw [lane_eq]; exact congrArg (fun b : Fin 8 => iblk m c 4 t (ix2 b (rows t R))) (bat_eq t)
theorem C1_eq (c : Dev nD) (t : Fin cfg0.N) (R : Fin 256) : C3 m c t 1 R = (args m c).dys (bat t) (rows t R) := by
  refine Eq.trans ?_ (blk5 m c t (bat t) (rows t R))
  show iblk m c 5 t (ix2 (grid0.coords t 0 : Fin 8) (lane (grid0.coords t) R)) = _
  rw [lane_eq]; exact congrArg (fun b : Fin 8 => iblk m c 5 t (ix2 b (rows t R))) (bat_eq t)
theorem C2_eq (c : Dev nD) (t : Fin cfg0.N) (R : Fin 256) : C3 m c t 2 R = (args m c).dhs (bat t) (rows t R) := by
  refine Eq.trans ?_ (blk6 m c t (bat t) (rows t R))
  show iblk m c 6 t (ix2 (grid0.coords t 0 : Fin 8) (lane (grid0.coords t) R)) = _
  rw [lane_eq]; exact congrArg (fun b : Fin 8 => iblk m c 6 t (ix2 b (rows t R))) (bat_eq t)

theorem o_eq (c : Dev nD) (t : Fin cfg0.N) : orow (grid0.coords t) (iblk m c 7 t) = (args m c).o (bat t) := by
  funext d
  refine Eq.trans ?_ (congrArg (fun v : EReal => 1 + v) (blk7 m c t (bat t) d))
  exact congrArg (fun b : Fin 8 => (1 : EReal) + iblk m c 7 t (ix2 b d)) (bat_eq t)
theorem m_eq (c : Dev nD) (t : Fin cfg0.N) : mrow (grid0.coords t) (iblk m c 8 t) = (args m c).mh (bat t) := by
  funext d
  refine Eq.trans ?_ (blk8 m c t (bat t) d)
  exact congrArg (fun b : Fin 8 => iblk m c 8 t (ix2 b d)) (bat_eq t)

theorem x_eq (c : Dev nD) (t : Fin cfg0.N) (R : Fin 256) : rowof (iblk m c 0 t) (C3 m c t 0) R = (args m c).xr (bat t) (rows t R) := by
  funext d; exact congrArg₂ (fun u v : EReal => u * v) (blk0 m c t R d) (C0_eq m c t R)
theorem dy_eq (c : Dev nD) (t : Fin cfg0.N) (R : Fin 256) : rowof (iblk m c 1 t) (C3 m c t 1) R = (args m c).dyr (bat t) (rows t R) := by
  funext d; exact congrArg₂ (fun u v : EReal => u * v) (blk1 m c t R d) (C1_eq m c t R)
theorem dh_eq (c : Dev nD) (t : Fin cfg0.N) (R : Fin 256) : rowof (iblk m c 2 t) (C3 m c t 2) R = (args m c).dhr (bat t) (rows t R) := by
  funext d; exact congrArg₂ (fun u v : EReal => u * v) (blk2 m c t R d) (C2_eq m c t R)

/-- The block of the input gradient. -/
theorem out9_eq (c : Dev nD) (t : Fin cfg0.N) (R : Fin 256) (d : Fin 2048) :
    out9 m c t (ix3 0 R d) = (args m c).dx (bat t) (rows t R) d := by
  show dxrow (rowof (iblk m c 0 t) (C3 m c t 0) R) (rowof (iblk m c 1 t) (C3 m c t 1) R)
    (rowof (iblk m c 2 t) (C3 m c t 2) R) (orow (grid0.coords t) (iblk m c 7 t)) d = _
  rw [x_eq, dy_eq, dh_eq, o_eq]; rfl

theorem bh_eq (c : Dev nD) (t : Fin cfg0.N) (R : Fin 256) :
    bh (iblk m c 0 t) (C3 m c t) (orow (grid0.coords t) (iblk m c 7 t)) (mrow (grid0.coords t) (iblk m c 8 t)) R
      = (args m c).h (bat t) (rows t R) := by
  show hrow (rowof (iblk m c 0 t) (C3 m c t 0) R) _ _ = _
  rw [x_eq, o_eq, m_eq]; rfl
theorem bhs_eq (c : Dev nD) (t : Fin cfg0.N) (R : Fin 256) :
    bhs (iblk m c 0 t) (C3 m c t) (orow (grid0.coords t) (iblk m c 7 t)) (mrow (grid0.coords t) (iblk m c 8 t)) R
      = (args m c).hs (bat t) (rows t R) := by
  unfold bhs; rw [bh_eq]; rfl

/-- The block of the fp8 copy. -/
theorem out12_eq (c : Dev nD) (t : Fin cfg0.N) (R : Fin 256) (d : Fin 2048) :
    out12 m c t (ix3 0 R d) = (args m c).hq (bat t) (rows t R) d := by
  show code (bh (iblk m c 0 t) (C3 m c t) (orow (grid0.coords t) (iblk m c 7 t)) (mrow (grid0.coords t) (iblk m c 8 t)) R d)
    (bhs (iblk m c 0 t) (C3 m c t) (orow (grid0.coords t) (iblk m c 7 t)) (mrow (grid0.coords t) (iblk m c 8 t)) R) = _
  rw [bh_eq, bhs_eq]; rfl

theorem bdm_eq (c : Dev nD) (t : Fin cfg0.N) (q : Fin 3) (R : Fin 256) (d : Fin 2048) :
    bdm (iblk m c 0 t) (iblk m c 1 t) (iblk m c 2 t) (iblk m c 3 t) (C3 m c t) q R d
      = (args m c).dm (bat t) q (rows t R) d := by
  unfold bdm
  rw [x_eq, dy_eq, dh_eq]
  rw [show (iblk m c 3 t (ix3 0 R d) : EReal) = (args m c).f (bat t) (rows t R) d from blk3 m c t R d]
  rfl

/-- Block `h` (0 or 1) of the two blocks of 128 rows of a grid point, among a batch's twenty. -/
def sub (t : Fin cfg0.N) (h : Fin 2) : Fin 20 := ⟨2 * (t.val % 10) + h.val, by omega⟩

theorem half0_eq (c : Dev nD) (t : Fin cfg0.N) (q : Fin 3) (d : Fin 2048) :
    half0 (iblk m c 0 t) (iblk m c 1 t) (iblk m c 2 t) (iblk m c 3 t) (C3 m c t) q d = (args m c).blk (bat t) (sub t 0) q d := by
  unfold half0
  refine Finset.sum_congr rfl fun l _ => ?_
  rw [bdm_eq]
  refine congrArg (fun r => (args m c).dm (bat t) q r d) (Fin.ext ?_)
  show 256 * (t.val % 10) + l.val = (2 * (t.val % 10) + 0) * 128 + l.val
  omega
theorem half1_eq (c : Dev nD) (t : Fin cfg0.N) (q : Fin 3) (d : Fin 2048) :
    half1 (iblk m c 0 t) (iblk m c 1 t) (iblk m c 2 t) (iblk m c 3 t) (C3 m c t) q d = (args m c).blk (bat t) (sub t 1) q d := by
  unfold half1
  refine Finset.sum_congr rfl fun l _ => ?_
  rw [bdm_eq]
  refine congrArg (fun r => (args m c).dm (bat t) q r d) (Fin.ext ?_)
  show 256 * (t.val % 10) + (128 + l.val) = (2 * (t.val % 10) + 1) * 128 + l.val
  omega

/-- The block gradients of a point. -/
theorem out11_eq (c : Dev nD) (t : Fin cfg0.N) (h : Fin 2) (q : Fin 3) (d : Fin 2048) :
    out11 m c t (ix4 0 h q d) = (args m c).blk (bat t) (sub t h) q d := by
  refine (bblk_half _ _ _ _ _ h q d).trans ?_
  by_cases h0 : h.val = 0
  · obtain rfl : h = 0 := Fin.ext h0
    exact (if_pos rfl).trans (half0_eq m c t q d)
  · obtain rfl : h = 1 := Fin.ext (by have := h.isLt; show h.val = 1; omega)
    exact (if_neg (by decide)).trans (half1_eq m c t q d)

/-- A point's step of the running modulation gradients: its two blocks added, to zero at a batch's first point. -/
theorem out10_eq (c : Dev nD) (t : Fin cfg0.N) (Y) (q : Fin 3) (d : Fin 2048) :
    out10 m c t Y (ix3 0 q d) = (if t.val % 10 = 0 then (0 : EReal) else Y (ix3 0 q d))
      + (args m c).blk (bat t) (sub t 0) q d + (args m c).blk (bat t) (sub t 1) q d := by
  refine Eq.trans ?_ (congrArg₂ (fun u v : EReal => (if t.val % 10 = 0 then (0 : EReal) else Y (ix3 0 q d)) + u + v)
    (half0_eq m c t q d) (half1_eq m c t q d))
  unfold out10
  by_cases h : t.val % 10 = 0
  · rw [if_pos h, if_pos h]; rfl
  · rw [if_neg h, if_neg h]; rfl

/-- A point's step of the scales: its own 256 of them set, the others as found. -/
theorem out13_eq (c : Dev nD) (t : Fin cfg0.N) (Y) (b : Fin 8) (n : Fin 2560) :
    out13 m c t Y (ix2 b n) = if 10 * b.val + n.val / 256 = t.val then (args m c).hs b n else Y (ix2 b n) := by
  unfold out13 hsstep
  by_cases h : 10 * b.val + n.val / 256 = t.val
  · have hn := n.isLt
    have hc : ((ix2 b n) 0).val = (grid0.coords t 0).val ∧ 256 * (grid0.coords t 1).val ≤ ((ix2 b n) 1).val
        ∧ ((ix2 b n) 1).val < 256 * (grid0.coords t 1).val + 256 := by
      rw [c0, c1]
      show b.val = t.val / 10 ∧ 256 * (t.val % 10) ≤ n.val ∧ n.val < 256 * (t.val % 10) + 256
      omega
    rw [dif_pos hc, if_pos h]
    refine (bhs_eq m c t _).trans (congrArg₂ (args m c).hs (Fin.ext ?_) (Fin.ext ?_))
    · show t.val / 10 = b.val
      omega
    · show 256 * (t.val % 10) + (n.val - 256 * (grid0.coords t 1).val) = n.val
      rw [c1]; omega
  · have hc : ¬ (((ix2 b n) 0).val = (grid0.coords t 0).val ∧ 256 * (grid0.coords t 1).val ≤ ((ix2 b n) 1).val
        ∧ ((ix2 b n) 1).val < 256 * (grid0.coords t 1).val + 256) := by
      rw [c0, c1]
      show ¬ (b.val = t.val / 10 ∧ 256 * (t.val % 10) ≤ n.val ∧ n.val < 256 * (t.val % 10) + 256)
      omega
    rw [dif_neg hc, if_neg h]

end Cert.KernelIdeal.Body

end
-- ==== Proof.Carried.lean ====
/- The two output buffers that carry what earlier grid points left: the running modulation gradients of a batch, and
   the scales of all rows. -/
module

public import proofs.«01_k».proof.Proof.Values

@[expose] public section

-- membership in a rectangle of production extents: the elaborator's structural look recurses once per coordinate
set_option maxRecDepth 16384

noncomputable section

namespace Cert.KernelIdeal.Body

open Cert.KernelIdeal.Gen Cert.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

/-- Block gradient `k` of a batch, zero past the twentieth. -/
def blkN (A : Args) (b : Fin 8) (q : Fin 3) (d : Fin 2048) (k : ℕ) : EReal := if h : k < 20 then A.blk b ⟨k, h⟩ q d else 0

theorem blkN_sub (A : Args) (b : Fin 8) (q : Fin 3) (d : Fin 2048) (t : Fin cfg0.N) (h : Fin 2) :
    A.blk b (sub t h) q d = blkN A b q d (2 * (t.val % 10) + h.val) := by
  have hh := h.isLt
  unfold blkN; rw [dif_pos (by omega)]; rfl

/-- After a point, the running modulation gradients hold the sum of the batch's block gradients so far. -/
theorem run10 (c : Dev nD) (n : ℕ) : ∀ (t : Fin cfg0.N), t.val = n → ∀ X : S1x3x2048.Idx → EReal, (rd m c).Leaves 10 t X → ∀ (q : Fin 3) (d : Fin 2048),
    X (ix3 0 q d) = ∑ k ∈ Finset.range (2 * (t.val % 10) + 2), blkN (args m c) (bat t) q d k := by
  induction n with
  | zero =>
    intro t ht X hX q d
    obtain ⟨Y, -, hX⟩ := hX
    rw [(left10 m c t Y X).mp hX, out10_eq, if_pos (by omega), blkN_sub, blkN_sub]
    rw [show 2 * (t.val % 10) = 0 by omega]
    simp [Finset.sum_range_succ]
  | succ n ih =>
    intro t ht X hX q d
    obtain ⟨Y, hY, hX⟩ := hX
    rw [(left10 m c t Y X).mp hX, out10_eq, blkN_sub, blkN_sub, Finset.sum_range_succ, Finset.sum_range_succ]
    refine congrArg (fun v : EReal => v + blkN (args m c) (bat t) q d (2 * (t.val % 10) + 0) + blkN (args m c) (bat t) q d (2 * (t.val % 10) + 1)) ?_
    by_cases h : t.val % 10 = 0
    · rw [if_pos h, h]; rfl
    · rw [if_neg h]
      have ht80 : t.val < 80 := Nat.lt_of_lt_of_eq t.isLt N_0
      rcases ((rd m c).finds_of_pos (w := 10) (t := t) rfl (by omega) Y).mp hY with hf | hl
      · have := (flush0_10 _).mp hf
        simp only at this
        omega
      · refine (ih ⟨t.val - 1, by omega⟩ (by show t.val - 1 = n; omega) Y hl q d).trans ?_
        have e1 : bat ⟨t.val - 1, by omega⟩ = bat t := Fin.ext (by show (t.val - 1) / 10 = t.val / 10; omega)
        rw [e1]
        refine Finset.sum_congr (congrArg Finset.range ?_) fun _ _ => rfl
        show 2 * ((t.val - 1) % 10) + 2 = 2 * (t.val % 10)
        omega

/-- At a batch's last point they are the batch's modulation gradients. -/
theorem last10 (c : Dev nD) (t : Fin cfg0.N) (ht : t.val % 10 = 9) (X : S1x3x2048.Idx → EReal) (hX : (rd m c).Leaves 10 t X) (q : Fin 3) (d : Fin 2048) :
    X (ix3 0 q d) = (args m c).dmod (bat t) q d := by
  rw [run10 m c t.val t rfl X hX q d, ht, Finset.sum_range]
  refine Finset.sum_congr rfl fun k _ => ?_
  unfold blkN; rw [dif_pos k.isLt]

/-- After a point, the scales of every row up to its own hold their values. -/
theorem run13 (c : Dev nD) (n : ℕ) : ∀ (t : Fin cfg0.N), t.val = n → ∀ X : S8x2560.Idx → EReal, (rd m c).Leaves 13 t X → ∀ (b : Fin 8) (r : Fin 2560),
    10 * b.val + r.val / 256 ≤ n → X (ix2 b r) = (args m c).hs b r := by
  induction n with
  | zero =>
    intro t ht X hX b r hr
    obtain ⟨Y, -, hX⟩ := hX
    rw [(left13 m c t Y X).mp hX, out13_eq, if_pos (by omega)]
  | succ n ih =>
    intro t ht X hX b r hr
    obtain ⟨Y, hY, hX⟩ := hX
    rw [(left13 m c t Y X).mp hX, out13_eq]
    by_cases h : 10 * b.val + r.val / 256 = t.val
    · rw [if_pos h]
    · rw [if_neg h]
      have ht80 : t.val < 80 := Nat.lt_of_lt_of_eq t.isLt N_0
      rcases ((rd m c).finds_of_pos (w := 13) (t := t) rfl (by omega) Y).mp hY with hf | hl
      · have := (flush0_13 _).mp hf
        simp only at this
        omega
      · exact ih ⟨t.val - 1, by omega⟩ (by show t.val - 1 = n; omega) Y hl b r (by omega)

end Cert.KernelIdeal.Body

end
-- ==== Proof.Loops.lean ====
/- The two loops of the kernel body, run on what the body has copied into the scratch buffer before each. -/
module
public import proofs.«01_k».proof.Proof.Accum
@[expose] public section
set_option maxRecDepth 16384
noncomputable section
namespace Cert.KernelIdeal.Body
open Cert.KernelIdeal Cert.KernelIdeal.Gen Idealize.ShloMosaic Idealize.ShloMosaic.TcCoe
open Idealize.ShloMosaic.Tactic Cert.Spec Cert.Quant

variable (c : Dev nD) (i : grid0.Coords) (arg2 : Memref sig .tc .vmem S1x256x2048 .fp8e4m3) (harg2 : arg2.IsWhole) (arg3 : Memref sig .tc .vmem S1x256x2048 .fp8e5m2) (harg3 : arg3.IsWhole) (arg4 : Memref sig .tc .vmem S1x256x2048 .fp8e5m2) (harg4 : arg4.IsWhole) (arg5 : Memref sig .tc .vmem S1x256x2048 .bf16) (harg5 : arg5.IsWhole) (arg6 : Memref sig .tc .vmem S8x2560 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2048 .f32) (harg9 : arg9.IsWhole) (arg10 : Memref sig .tc .vmem S8x2048 .f32) (harg10 : arg10.IsWhole) (arg11 : Memref sig .tc .vmem S1x256x2048 .bf16) (harg11 : arg11.IsWhole) (arg12 : Memref sig .tc .vmem S1x3x2048 .f32) (harg12 : arg12.IsWhole) (arg13 : Memref sig .tc .vmem S1x2x3x2048 .f32) (harg13 : arg13.IsWhole) (arg14 : Memref sig .tc .vmem S1x256x2048 .fp8e4m3) (harg14 : arg14.IsWhole) (arg15 : Memref sig .tc .vmem S8x2560 .f32) (harg15 : arg15.IsWhole) (arg16 : Memref sig .tc .vmem S3x128x128 .f32) (harg16 : arg16.IsWhole) (arg17 : Memref sig .tc .vmem S128x128 .f32) (harg17 : arg17.IsWhole)
  (x0 : Vec Ideal S1x256x2048 .fp8e4m3) (x1 x2 : Vec Ideal S1x256x2048 .fp8e5m2) (x3 : Vec Ideal S1x256x2048 .bf16)
  (x4 x5 x6 : Vec Ideal S8x2560 .f32) (x7 x8 : Vec Ideal S8x2048 .f32) (w : BitVec 32)
  (e0 : ∀ a, (![0, 0, 0] : Fin 3 → ℕ) a + S1x128x128.size a ≤ S3x128x128.size a)
  (e1 : ∀ a, (![1, 0, 0] : Fin 3 → ℕ) a + S1x128x128.size a ≤ S3x128x128.size a)
  (e2 : ∀ a, (![2, 0, 0] : Fin 3 → ℕ) a + S1x128x128.size a ≤ S3x128x128.size a)
  (u7 u8 : ∀ a, (![0, 0] : Fin 2 → ℕ) a + S8x2048.size a ≤ S8x2048.size a)
  (f16 : BufTy.Contents (Elt Ideal) arg16.view.ty) (L : List (View.Piece (Elt Ideal) S3x128x128 .f32))

/-- After loop 1, the first 128 rows are done. -/
theorem inv1 (v : FVec Ideal S128x128 .f32) : Loop1.Inv x0 x1 x2 x3 (colsOf i x4 x5 x6) (orow i x7) (mrow i x8) 4
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val)
      (k0_pay38 i (View.readAt (Elt Ideal) arg9.view (Rect.unit (s := S8x2048) ![0, 0] S8x2048.size u7).toLoadRect (harg9.unread x7)))
      (k0_pay39 i (View.readAt (Elt Ideal) arg10.view (Rect.unit (s := S8x2048) ![0, 0] S8x2048.size u8).toLoadRect (harg10.unread x8)))
      w v (harg2.unread x0) (harg3.unread x1) (harg4.unread x2) (harg5.unread x3)
      (arg16.view.writes (Elt Ideal) f16
      (⟨Rect.unit (s := S3x128x128) ![2, 0, 0] S1x128x128.size e2, k0_pay44 (F := Ideal) (BitVec.ofNat 32 (i 0).val) (View.readAt (Elt Ideal) arg8.view (RL0 i).toLoadRect (harg8.unread x6))⟩
        :: ⟨Rect.unit (s := S3x128x128) ![1, 0, 0] S1x128x128.size e1, k0_pay43 (F := Ideal) (BitVec.ofNat 32 (i 0).val) (View.readAt (Elt Ideal) arg7.view (RL0 i).toLoadRect (harg7.unread x5))⟩
        :: ⟨Rect.unit (s := S3x128x128) ![0, 0, 0] S1x128x128.size e0, k0_pay42 (F := Ideal) (k0_pay41 i (View.readAt (Elt Ideal) arg6.view (RL0 i).toLoadRect (harg6.unread x4)))⟩ :: L))
      (k0_pay45, k0_pay45, k0_pay45) (Scf.trips k0_t1_loop.lb k0_t1_loop.ub k0_t1_loop.st)) := by
  have ht : Scf.trips k0_t1_loop.lb k0_t1_loop.ub k0_t1_loop.st = 4 := by decide
  rw [ht, ← row_o i arg9 harg9 x7 u7, ← row_m i arg10 harg10 x8 u8]
  exact Loop1.inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ w v x0 x1 x2 x3 _ (colsOf i x4 x5 x6)
    (cols0 i arg6 harg6 arg7 harg7 arg8 harg8 x4 x5 x6 arg16.view f16 e0 e1 e2 L) 4 (le_refl 4)

/-- After loop 2, the last 128 rows are done. -/
theorem inv2 (v : FVec Ideal S1x128 .f32) : Loop2.Inv x0 x1 x2 x3 (colsOf i x4 x5 x6) (orow i x7) (mrow i x8) 4
    (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val)
      (k0_pay38 i (View.readAt (Elt Ideal) arg9.view (Rect.unit (s := S8x2048) ![0, 0] S8x2048.size u7).toLoadRect (harg9.unread x7)))
      (k0_pay39 i (View.readAt (Elt Ideal) arg10.view (Rect.unit (s := S8x2048) ![0, 0] S8x2048.size u8).toLoadRect (harg10.unread x8)))
      w v (harg2.unread x0) (harg3.unread x1) (harg4.unread x2) (harg5.unread x3)
      (arg16.view.writes (Elt Ideal) f16
      (⟨Rect.unit (s := S3x128x128) ![2, 0, 0] S1x128x128.size e2, k0_pay64 (F := Ideal) (BitVec.ofNat 32 (i 0).val) (View.readAt (Elt Ideal) arg8.view (RL1 i).toLoadRect (harg8.unread x6))⟩
        :: ⟨Rect.unit (s := S3x128x128) ![1, 0, 0] S1x128x128.size e1, k0_pay63 (F := Ideal) (k0_pay62 (BitVec.ofNat 32 (i 0).val) (View.readAt (Elt Ideal) arg7.view (RL1 i).toLoadRect (harg7.unread x5)))⟩
        :: ⟨Rect.unit (s := S3x128x128) ![0, 0, 0] S1x128x128.size e0, k0_pay61 (F := Ideal) (BitVec.ofNat 32 (i 0).val) (View.readAt (Elt Ideal) arg6.view (RL1 i).toLoadRect (harg6.unread x4))⟩ :: L))
      (k0_pay65, k0_pay65, k0_pay65) (Scf.trips k0_t2_loop.lb k0_t2_loop.ub k0_t2_loop.st)) := by
  have ht : Scf.trips k0_t2_loop.lb k0_t2_loop.ub k0_t2_loop.st = 4 := by decide
  rw [ht, ← row_o i arg9 harg9 x7 u7, ← row_m i arg10 harg10 x8 u8]
  exact Loop2.inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ w v x0 x1 x2 x3 _ (colsOf i x4 x5 x6)
    (cols1 i arg6 harg6 arg7 harg7 arg8 harg8 x4 x5 x6 arg16.view f16 e0 e1 e2 L) 4 (le_refl 4)
end Cert.KernelIdeal.Body
-- ==== Proof.RunA.lean ====
/- The kernel body run at the first point of a batch. -/
module

public import proofs.«01_k».proof.Proof.Scaffold
public import proofs.«01_k».proof.Proof.Loops

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

-- (the run's proof term is large: checking it walks past the default budget)
set_option maxHeartbeats 1000000 in
/-- At the first point of a batch, the body leaves the inputs' staging buffers as they were, and in the outputs' what
    `Accum.lean` and `Outputs.lean` name. -/
theorem kRunA (c : Dev nD) (i : grid0.Coords) (arg2 : Memref sig .tc .vmem S1x256x2048 .fp8e4m3) (harg2 : arg2.IsWhole) (arg3 : Memref sig .tc .vmem S1x256x2048 .fp8e5m2) (harg3 : arg3.IsWhole) (arg4 : Memref sig .tc .vmem S1x256x2048 .fp8e5m2) (harg4 : arg4.IsWhole) (arg5 : Memref sig .tc .vmem S1x256x2048 .bf16) (harg5 : arg5.IsWhole) (arg6 : Memref sig .tc .vmem S8x2560 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2048 .f32) (harg9 : arg9.IsWhole) (arg10 : Memref sig .tc .vmem S8x2048 .f32) (harg10 : arg10.IsWhole) (arg11 : Memref sig .tc .vmem S1x256x2048 .bf16) (harg11 : arg11.IsWhole) (arg12 : Memref sig .tc .vmem S1x3x2048 .f32) (harg12 : arg12.IsWhole) (arg13 : Memref sig .tc .vmem S1x2x3x2048 .f32) (harg13 : arg13.IsWhole) (arg14 : Memref sig .tc .vmem S1x256x2048 .fp8e4m3) (harg14 : arg14.IsWhole) (arg15 : Memref sig .tc .vmem S8x2560 .f32) (harg15 : arg15.IsWhole) (arg16 : Memref sig .tc .vmem S3x128x128 .f32) (harg16 : arg16.IsWhole) (arg17 : Memref sig .tc .vmem S128x128 .f32) (harg17 : arg17.IsWhole) (hc0 : cond0_0 i)
    (x0 : Vec Ideal S1x256x2048 .fp8e4m3) (x1 : Vec Ideal S1x256x2048 .fp8e5m2) (x2 : Vec Ideal S1x256x2048 .fp8e5m2) (x3 : Vec Ideal S1x256x2048 .bf16) (x4 : Vec Ideal S8x2560 .f32) (x5 : Vec Ideal S8x2560 .f32) (x6 : Vec Ideal S8x2560 .f32) (x7 : Vec Ideal S8x2048 .f32) (x8 : Vec Ideal S8x2048 .f32) (Y10 : Vec Ideal S1x3x2048 .f32) (Y13 : Vec Ideal S8x2560 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare Y10 ∗ (∃ d, owns (c : Thread nD τ) arg13 fullShare d) ∗ (∃ d, owns (c : Thread nD τ) arg14 fullShare d) ∗ owns (c : Thread nD τ) arg15 fullShare Y13 ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (bdx x0 x1 x2 (colsOf i x4 x5 x6) (orow i x7)) ∗ owns (c : Thread nD τ) arg12 fullShare (dmstep x0 x1 x2 x3 (colsOf i x4 x5 x6) (fun _ => 0)) ∗ owns (c : Thread nD τ) arg13 fullShare (bblk x0 x1 x2 x3 (colsOf i x4 x5 x6)) ∗ owns (c : Thread nD τ) arg14 fullShare (bhq x0 (colsOf i x4 x5 x6) (orow i x7) (mrow i x8)) ∗ owns (c : Thread nD τ) arg15 fullShare (hsstep i x0 (colsOf i x4 x5 x6) (orow i x7) (mrow i x8) Y13) ∗ (∃ d, owns (c : Thread nD τ) arg16 fullShare d) ∗ (∃ d, owns (c : Thread nD τ) arg17 fullShare d)) -∗ K ⟨⟩))
          ⊢ wp frame (wpE (defs₀ (F := Ideal)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_adaln_bwd_eq_skeleton]; unfold cc0_adaln_bwd_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%f13, %hf13, H13⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; sl_unfold_words
      exact out_dx x0 x1 x2 x3 (colsOf i x4 x5 x6) (orow i x7) (mrow i x8) _ _ (inv1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) (inv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) _ _
    isplitl [H10]
    · iexists _; isplitr; swap; · iexact H10
      ipureintro; sl_unfold_words
      exact out_dmA _ _ x0 x1 x2 x3 (colsOf i x4 x5 x6) (orow i x7) (mrow i x8) _ _ (inv1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) (inv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) _ _ _ _ _ _ _ _ rfl rfl rfl rfl
    isplitl [H11]
    · iexists _; isplitr; swap; · iexact H11
      ipureintro; sl_unfold_words
      exact out_blk _ _ x0 x1 x2 x3 (colsOf i x4 x5 x6) (orow i x7) (mrow i x8) _ _ (inv1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) (inv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) _ _ _ _ _ _
    isplitl [H12]
    · iexists _; isplitr; swap; · iexact H12
      ipureintro; sl_unfold_words
      exact out_hq x0 x1 x2 x3 (colsOf i x4 x5 x6) (orow i x7) (mrow i x8) _ _ (inv1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) (inv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) _ _
    isplitl [H13]
    · iexists _; isplitr; swap; · iexact H13
      ipureintro; sl_unfold_words
      exact out_hs i x0 x1 x2 x3 (colsOf i x4 x5 x6) (orow i x7) (mrow i x8) _ _ (inv1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) (inv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) arg17 _ _ _ arg15 harg15 Y13
    isplitl [HS0]
    · iexists _, _; isplitr; swap; · iexact HS0
      ipureintro; rfl
    iexists _, _; isplitr; swap; · iexact HS1
    ipureintro; rfl

end Cert.KernelIdeal.Body

end
-- ==== Proof.RunB.lean ====
/- The kernel body run at a point other than a batch's first. -/
module

public import proofs.«01_k».proof.Proof.Scaffold
public import proofs.«01_k».proof.Proof.Loops

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

/-- A row of the accumulated gradients, as the body loads it. -/
theorem hY (arg12 : Memref sig .tc .vmem S1x3x2048 .f32) (harg12 : arg12.IsWhole) (Y10 : Vec Ideal S1x3x2048 .f32) (q : Fin 3)
    (inb : ∀ a, (![0, q.val, 0] : Fin 3 → ℕ) a + S1x1x2048.size a ≤ S1x3x2048.size a) (d : Fin 2048) :
    View.readAt (Elt Ideal) arg12.view (Rect.unit (s := S1x3x2048) ![0, q.val, 0] S1x1x2048.size inb).toLoadRect (harg12.unread Y10) (ix3 0 0 d)
      = Y10 (ix3 0 q d) := by
  rw [drow_ld, harg12.read_unread]

-- (the run's proof term is large: checking it walks past the default budget)
set_option maxHeartbeats 1000000 in
/-- At any other point, the body leaves the inputs' staging buffers as they were, and in the outputs' what
    `Accum.lean` and `Outputs.lean` name. -/
theorem kRunB (c : Dev nD) (i : grid0.Coords) (arg2 : Memref sig .tc .vmem S1x256x2048 .fp8e4m3) (harg2 : arg2.IsWhole) (arg3 : Memref sig .tc .vmem S1x256x2048 .fp8e5m2) (harg3 : arg3.IsWhole) (arg4 : Memref sig .tc .vmem S1x256x2048 .fp8e5m2) (harg4 : arg4.IsWhole) (arg5 : Memref sig .tc .vmem S1x256x2048 .bf16) (harg5 : arg5.IsWhole) (arg6 : Memref sig .tc .vmem S8x2560 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2048 .f32) (harg9 : arg9.IsWhole) (arg10 : Memref sig .tc .vmem S8x2048 .f32) (harg10 : arg10.IsWhole) (arg11 : Memref sig .tc .vmem S1x256x2048 .bf16) (harg11 : arg11.IsWhole) (arg12 : Memref sig .tc .vmem S1x3x2048 .f32) (harg12 : arg12.IsWhole) (arg13 : Memref sig .tc .vmem S1x2x3x2048 .f32) (harg13 : arg13.IsWhole) (arg14 : Memref sig .tc .vmem S1x256x2048 .fp8e4m3) (harg14 : arg14.IsWhole) (arg15 : Memref sig .tc .vmem S8x2560 .f32) (harg15 : arg15.IsWhole) (arg16 : Memref sig .tc .vmem S3x128x128 .f32) (harg16 : arg16.IsWhole) (arg17 : Memref sig .tc .vmem S128x128 .f32) (harg17 : arg17.IsWhole) (hc0 : ¬ cond0_0 i)
    (x0 : Vec Ideal S1x256x2048 .fp8e4m3) (x1 : Vec Ideal S1x256x2048 .fp8e5m2) (x2 : Vec Ideal S1x256x2048 .fp8e5m2) (x3 : Vec Ideal S1x256x2048 .bf16) (x4 : Vec Ideal S8x2560 .f32) (x5 : Vec Ideal S8x2560 .f32) (x6 : Vec Ideal S8x2560 .f32) (x7 : Vec Ideal S8x2048 .f32) (x8 : Vec Ideal S8x2048 .f32) (Y10 : Vec Ideal S1x3x2048 .f32) (Y13 : Vec Ideal S8x2560 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare Y10 ∗ (∃ d, owns (c : Thread nD τ) arg13 fullShare d) ∗ (∃ d, owns (c : Thread nD τ) arg14 fullShare d) ∗ owns (c : Thread nD τ) arg15 fullShare Y13 ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (bdx x0 x1 x2 (colsOf i x4 x5 x6) (orow i x7)) ∗ owns (c : Thread nD τ) arg12 fullShare (dmstep x0 x1 x2 x3 (colsOf i x4 x5 x6) Y10) ∗ owns (c : Thread nD τ) arg13 fullShare (bblk x0 x1 x2 x3 (colsOf i x4 x5 x6)) ∗ owns (c : Thread nD τ) arg14 fullShare (bhq x0 (colsOf i x4 x5 x6) (orow i x7) (mrow i x8)) ∗ owns (c : Thread nD τ) arg15 fullShare (hsstep i x0 (colsOf i x4 x5 x6) (orow i x7) (mrow i x8) Y13) ∗ (∃ d, owns (c : Thread nD τ) arg16 fullShare d) ∗ (∃ d, owns (c : Thread nD τ) arg17 fullShare d)) -∗ K ⟨⟩))
          ⊢ wp frame (wpE (defs₀ (F := Ideal)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_adaln_bwd_eq_skeleton]; unfold cc0_adaln_bwd_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%f13, %hf13, H13⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; sl_unfold_words
      exact out_dx x0 x1 x2 x3 (colsOf i x4 x5 x6) (orow i x7) (mrow i x8) _ _ (inv1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) (inv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) _ _
    isplitl [H10]
    · iexists _; isplitr; swap; · iexact H10
      ipureintro; sl_unfold_words
      exact out_dm _ _ x0 x1 x2 x3 (colsOf i x4 x5 x6) (orow i x7) (mrow i x8) _ _ (inv1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) (inv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) Y10 _ _ _ _ _ _ _ (fun d => hY arg12 harg12 Y10 0 _ d) (fun d => hY arg12 harg12 Y10 1 _ d) (fun d => hY arg12 harg12 Y10 2 _ d)
    isplitl [H11]
    · iexists _; isplitr; swap; · iexact H11
      ipureintro; sl_unfold_words
      exact out_blk _ _ x0 x1 x2 x3 (colsOf i x4 x5 x6) (orow i x7) (mrow i x8) _ _ (inv1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) (inv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) _ _ _ _ _ _
    isplitl [H12]
    · iexists _; isplitr; swap; · iexact H12
      ipureintro; sl_unfold_words
      exact out_hq x0 x1 x2 x3 (colsOf i x4 x5 x6) (orow i x7) (mrow i x8) _ _ (inv1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) (inv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) _ _
    isplitl [H13]
    · iexists _; isplitr; swap; · iexact H13
      ipureintro; sl_unfold_words
      exact out_hs i x0 x1 x2 x3 (colsOf i x4 x5 x6) (orow i x7) (mrow i x8) _ _ (inv1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) (inv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ _ _ _ _ _ _) arg17 _ _ _ arg15 harg15 Y13
    isplitl [HS0]
    · iexists _, _; isplitr; swap; · iexact HS0
      ipureintro; rfl
    iexists _, _; isplitr; swap; · iexact HS1
    ipureintro; rfl

end Cert.KernelIdeal.Body

end
-- ==== Proof.Obligation.lean ====
/- The body of the kernel meets the data of the run at every grid point. -/
module

public import proofs.«01_k».proof.Proof.Data
public import proofs.«01_k».proof.Proof.RunA
public import proofs.«01_k».proof.Proof.RunB

@[expose] public section

-- membership in a rectangle of production extents: the elaborator's structural look recurses once per coordinate
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

/-- What the body is called with at point `t`: the input blocks, the outputs at whatever they hold. -/
def bodyPre (c : Dev nD) (t : Fin cfg0.N) (Y9 : Vec Idealize.ShloMosaic.Ideal S1x256x2048 .bf16) (Y10 : Vec Idealize.ShloMosaic.Ideal S1x3x2048 .f32) (Y11 : Vec Idealize.ShloMosaic.Ideal S1x2x3x2048 .f32)
    (Y12 : Vec Idealize.ShloMosaic.Ideal S1x256x2048 .fp8e4m3) (Y13 : Vec Idealize.ShloMosaic.Ideal S8x2560 .f32) : sProp 𝕄 :=
  iprop((rd m c).Φ t.castSucc ∗ (rd m c).owesAt () t.castSucc
    ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t)
    ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13)

/-- What it returns: the input blocks, and the outputs as `Data.lean` names them. -/
def bodyPost (c : Dev nD) (t : Fin cfg0.N) (Y10 : Vec Idealize.ShloMosaic.Ideal S1x3x2048 .f32) (Y13 : Vec Idealize.ShloMosaic.Ideal S8x2560 .f32) : sProp 𝕄 :=
  iprop((rd m c).Φ t.succ ∗ (rd m c).owesAt () t.succ
    ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t)
    ∗ owns (c : Thread nD τ) (ms0_9 t) fullShare (out9 m c t) ∗ owns (c : Thread nD τ) (ms0_10 t) fullShare (out10 m c t Y10) ∗ owns (c : Thread nD τ) (ms0_11 t) fullShare (out11 m c t) ∗ owns (c : Thread nD τ) (ms0_12 t) fullShare (out12 m c t) ∗ owns (c : Thread nD τ) (ms0_13 t) fullShare (out13 m c t Y13))

set_option maxHeartbeats 3200000 in
/-- The body at any point, from `bodyPre` to `bodyPost`: the two runs, by whether the point is the first of its batch. -/
theorem sound_body (c : Dev nD) (t : Fin cfg0.N) (Y9 Y10 Y11 Y12 Y13) :
    bodyPre m c t Y9 Y10 Y11 Y12 Y13 ⊢ wp frame (wpE (defs₀ (F := Idealize.ShloMosaic.Ideal)) Variants.none c none) Set.univ (bodyAt0 t) (fun _ => bodyPost m c t Y10 Y13) := by
  unfold bodyPre bodyPost bodyAt0
  rw [show (rd m c).Φ t.succ = (rd m c).Φ t.castSucc from rfl,
    show (rd m c).owesAt () t.succ = (rd m c).owesAt () t.castSucc from rfl]
  rw [show (rd m c).Φ t.castSucc = Pipeline.ΦA spec0 c from rfl, PhiA0_eq]
  by_cases h0 : t.val % 10 = 0
  · rw [show out10 m c t Y10 = dmstep (iblk m c 0 t) (iblk m c 1 t) (iblk m c 2 t) (iblk m c 3 t) (colsOf (grid0.coords t) (iblk m c 4 t) (iblk m c 5 t) (iblk m c 6 t)) (fun _ => (0 : EReal)) from by unfold out10; rw [if_pos h0]]
    unfold out9 out11 out12 out13
    iintro ⟨⟨⟨HS0, HS1⟩, Hg⟩, Ho, H0, H1, H2, H3, H4, H5, H6, H7, H8, H9, H10, H11, H12, H13⟩
    iapply ((kRunA c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) Y10 Y13) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [H13]; · iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [show out10 m c t Y10 = dmstep (iblk m c 0 t) (iblk m c 1 t) (iblk m c 2 t) (iblk m c 3 t) (colsOf (grid0.coords t) (iblk m c 4 t) (iblk m c 5 t) (iblk m c 6 t)) Y10 from by unfold out10; rw [if_neg h0]]
    unfold out9 out11 out12 out13
    iintro ⟨⟨⟨HS0, HS1⟩, Hg⟩, Ho, H0, H1, H2, H3, H4, H5, H6, H7, H8, H9, H10, H11, H12, H13⟩
    iapply ((kRunB c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) Y10 Y13) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [H13]; · iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := Idealize.ShloMosaic.Ideal) .tc cfg0.body (cfg0.bodyArgs t (cfg0.slots t)) = bodyAt0 t := by
  unfold defs₀; rw [Defs.onTc_tc]

set_option maxHeartbeats 1600000 in
/-- The body meets the data of the run at every point, whatever it may find in the buffers. -/
theorem body_obligation (c : Dev nD) : (rd m c).BodyObligation (defs₀ (F := Idealize.ShloMosaic.Ideal)) Variants.none () Set.univ := by
  intro t Y hY
  rw [bigSep_W0, bigSep_W0, defs₀_row]
  rw [found0 m c t _ (hY 0), found1 m c t _ (hY 1), found2 m c t _ (hY 2), found3 m c t _ (hY 3), found4 m c t _ (hY 4), found5 m c t _ (hY 5), found6 m c t _ (hY 6), found7 m c t _ (hY 7), found8 m c t _ (hY 8)]
  refine triple_restated (sound_body m c t (Y 9) (Y 10) (Y 11) (Y 12) (Y 13)) rfl .rfl fun _ => ?_
  unfold bodyPost
  iintro ⟨Hp, Ho, H0, H1, H2, H3, H4, H5, H6, H7, H8, H9, H10, H11, H12, H13⟩
  isplitl [Hp]; · iexact Hp
  isplitl [Ho]; · iexact Ho
  isplitl [H0]
  · iexists (iblk m c 0 t)
    isplitr
    · ipureintro; exact keep0 m c t _
    iexact H0
  isplitl [H1]
  · iexists (iblk m c 1 t)
    isplitr
    · ipureintro; exact keep1 m c t _
    iexact H1
  isplitl [H2]
  · iexists (iblk m c 2 t)
    isplitr
    · ipureintro; exact keep2 m c t _
    iexact H2
  isplitl [H3]
  · iexists (iblk m c 3 t)
    isplitr
    · ipureintro; exact keep3 m c t _
    iexact H3
  isplitl [H4]
  · iexists (iblk m c 4 t)
    isplitr
    · ipureintro; exact keep4 m c t _
    iexact H4
  isplitl [H5]
  · iexists (iblk m c 5 t)
    isplitr
    · ipureintro; exact keep5 m c t _
    iexact H5
  isplitl [H6]
  · iexists (iblk m c 6 t)
    isplitr
    · ipureintro; exact keep6 m c t _
    iexact H6
  isplitl [H7]
  · iexists (iblk m c 7 t)
    isplitr
    · ipureintro; exact keep7 m c t _
    iexact H7
  isplitl [H8]
  · iexists (iblk m c 8 t)
    isplitr
    · ipureintro; exact keep8 m c t _
    iexact H8
  isplitl [H9]
  · iexists (out9 m c t)
    isplitr
    · ipureintro; exact (left9 m c t _ _).mpr rfl
    iexact H9
  isplitl [H10]
  · iexists (out10 m c t (Y 10))
    isplitr
    · ipureintro; exact (left10 m c t _ _).mpr rfl
    iexact H10
  isplitl [H11]
  · iexists (out11 m c t)
    isplitr
    · ipureintro; exact (left11 m c t _ _).mpr rfl
    iexact H11
  isplitl [H12]
  · iexists (out12 m c t)
    isplitr
    · ipureintro; exact (left12 m c t _ _).mpr rfl
    iexact H12
  · iexists (out13 m c t (Y 13))
    isplitr
    · ipureintro; exact (left13 m c t _ _).mpr rfl
    iexact H13

end Cert.KernelIdeal.Body

end
-- ==== Proof.Run.lean ====
/- Every run of the kernel ends, its arguments unchanged, its counters at zero and its arrays as the data name them. -/
module

public import proofs.«01_k».proof.Proof.Obligation
public import Idealize.ShloMosaic.Lib.Pipeline.ArrRel

@[expose] public section

-- membership in a rectangle of production extents: the elaborator's structural look recurses once per coordinate
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

set_option backward.isDefEq.respectTransparency.types false in
/-- Every run ends in a state whose arrays are as the data name them and whose counters are all at zero. -/
theorem run : θ_run defs (onTc (τ := τ) (main (F := Idealize.ShloMosaic.Ideal))) (s₀ m ρ)
    (fun r => Pipeline.RDat.FramePost (cfgs 0) (rd m) (V m) r ∧ r.2.sem = fun _ => 0) :=
  Pipeline.RDat.θ_run_frame (Q' := _) cfgs (0 : Fin 1) launch0 defs₀ Variants.none (rd m) m ρ main
    (hbody := fun c => body_obligation m c) (hshare := fun c => (dats m 0 c).share_full fun _ => rfl)
    (howed := fun _ _ => rfl) (V := V m) (hmain := hmain m Variants.none) (hA := A_eq m) (hΦ := fun _ _ => rfl)
    (hQ' := fun _ h => h)

/-- In such a state the arguments are unchanged. -/
theorem unchanged_of {r} (h : Pipeline.RDat.FramePost (cfgs 0) (rd m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(Pipeline.RDat.FramePost.arr_in h c 0 rfl).trans ((A_eq m c 0).trans (V_main_arg0 m c)),
    (Pipeline.RDat.FramePost.arr_in h c 4 rfl).trans ((A_eq m c 4).trans (V_main_arg1 m c)),
    (Pipeline.RDat.FramePost.arr_in h c 3 rfl).trans ((A_eq m c 3).trans (V_main_arg2 m c)),
    (Pipeline.RDat.FramePost.arr_in h c 1 rfl).trans ((A_eq m c 1).trans (V_main_arg3 m c)),
    (Pipeline.RDat.FramePost.arr_in h c 5 rfl).trans ((A_eq m c 5).trans (V_main_arg4 m c)),
    (Pipeline.RDat.FramePost.arr_in h c 2 rfl).trans ((A_eq m c 2).trans (V_main_arg5 m c)),
    (Pipeline.RDat.FramePost.arr_in h c 6 rfl).trans ((A_eq m c 6).trans (V_main_arg6 m c)),
    (Pipeline.RDat.FramePost.arr_in h c 7 rfl).trans ((A_eq m c 7).trans (V_main_arg7 m c)),
    (Pipeline.RDat.FramePost.arr_in h c 8 rfl).trans ((A_eq m c 8).trans (V_main_arg8 m c))⟩

/-- The frame claim: the arguments end unchanged and every counter at zero. -/
theorem frame : θ_run defs (onTc (τ := τ) (main (F := Idealize.ShloMosaic.Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨unchanged_of m h.1, h.2⟩) (run m ρ)

end Cert.KernelIdeal.Body

end
-- ==== Proof.Arrays.lean ====
/- The five result arrays after a run, in the functions of Spec.lean over the argument arrays. -/
module

public import proofs.«01_k».proof.Proof.Carried
public import proofs.«01_k».proof.Proof.Run
public import Idealize.ShloMosaic.Lib.Pipeline.ArrRel

@[expose] public section

-- membership in a rectangle of production extents: the elaborator's structural look recurses once per coordinate
set_option maxRecDepth 16384

noncomputable section

namespace Cert.KernelIdeal.Body

open Cert.KernelIdeal.Gen Cert.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

theorem idx9 : ∀ t : Fin cfg0.N, win0_9.index t = ![(grid0.coords t 0).val, (grid0.coords t 1).val, 0] :=
  (by decide +kernel : ∀ t : Fin grid0.N, _)
theorem idx10 : ∀ t : Fin cfg0.N, win0_10.index t = ![(grid0.coords t 0).val, 0, 0] :=
  (by decide +kernel : ∀ t : Fin grid0.N, _)
theorem idx11 : ∀ t : Fin cfg0.N, win0_11.index t = ![(grid0.coords t 0).val, (grid0.coords t 1).val, 0, 0] :=
  (by decide +kernel : ∀ t : Fin grid0.N, _)
theorem idx12 : ∀ t : Fin cfg0.N, win0_12.index t = ![(grid0.coords t 0).val, (grid0.coords t 1).val, 0] :=
  (by decide +kernel : ∀ t : Fin grid0.N, _)

theorem emb9 (t : Fin cfg0.N) (R : Fin 256) (d : Fin 2048) : (win0_9.blk t).view.emb (ix3 0 R d) = ix3 (bat t) (rows t R) d := by
  blk_ext [bat, rows, c1 t, c0 t, idx9 t]

theorem emb10 (t : Fin cfg0.N) (q : Fin 3) (d : Fin 2048) : (win0_10.blk t).view.emb (ix3 0 q d) = ix3 (bat t) q d := by
  blk_ext [bat, c0 t, idx10 t]

theorem emb11 (t : Fin cfg0.N) (h : Fin 2) (q : Fin 3) (d : Fin 2048) : (win0_11.blk t).view.emb (ix4 0 h q d) = ix4 (bat t) (sub t h) q d := by
  blk_ext [bat, sub, c1 t, c0 t, idx11 t]

theorem emb12 (t : Fin cfg0.N) (R : Fin 256) (d : Fin 2048) : (win0_12.blk t).view.emb (ix3 0 R d) = ix3 (bat t) (rows t R) d := by
  blk_ext [bat, rows, c1 t, c0 t, idx12 t]

section
variable (c : Dev nD) (after : (w : Fin cfg0.W) → Fin cfg0.N → (cfg0.win w).block.Idx → Elt Idealize.ShloMosaic.Ideal (cfg0.win w).elt)
  (hL : ∀ w u, (cfg0.win w).flush u = true → (rd m c).Leaves w u (after w u))
include hL

/-- The first result is the input gradient. -/
theorem arr9 : ((rd m c).withAfter after).arrAt 9 cfg0.N = (args m c).dxA := by
  refine ((rd m c).withAfter after).arrAt_eq_of_covers 9 _ (by decide +kernel) fun t hf y => ?_
  obtain ⟨Y, -, hX⟩ := hL 9 t hf
  rw [RDat.withAfter_after, (left9 m c t Y _).mp hX]
  blk_simp
  obtain ⟨a, R, d, rfl⟩ := ex3 (a := 1) (b := 256) (c := 2048) y
  obtain rfl : a = 0 := Subsingleton.elim _ _
  exact (out9_eq m c t R d).trans (congrArg (args m c).dxA (emb9 t R d)).symm

/-- The second result is the modulation gradients. -/
theorem arr10 : ((rd m c).withAfter after).arrAt 10 cfg0.N = (args m c).dmodA := by
  refine ((rd m c).withAfter after).arrAt_eq_of_covers 10 _ (by decide +kernel) fun t hf y => ?_
  have hX := hL 10 t hf
  rw [RDat.withAfter_after]
  blk_simp
  obtain ⟨a, q, d, rfl⟩ := ex3 (a := 1) (b := 3) (c := 2048) y
  obtain rfl : a = 0 := Subsingleton.elim _ _
  exact (last10 m c t ((flush0_10 t).mp hf) _ hX q d).trans (congrArg (args m c).dmodA (emb10 t q d)).symm

/-- The third result is the block gradients. -/
theorem arr11 : ((rd m c).withAfter after).arrAt 11 cfg0.N = (args m c).blkA := by
  refine ((rd m c).withAfter after).arrAt_eq_of_covers 11 _ (by decide +kernel) fun t hf y => ?_
  obtain ⟨Y, -, hX⟩ := hL 11 t hf
  rw [RDat.withAfter_after, (left11 m c t Y _).mp hX]
  blk_simp
  obtain ⟨a, h, q, d, rfl⟩ := ex4 (a := 1) (b := 2) (c := 3) (d := 2048) y
  obtain rfl : a = 0 := Subsingleton.elim _ _
  exact (out11_eq m c t h q d).trans (congrArg (args m c).blkA (emb11 t h q d)).symm

/-- The fourth result is the modulated rows' fp8 copy. -/
theorem arr12 : ((rd m c).withAfter after).arrAt 12 cfg0.N = (args m c).hqA := by
  refine ((rd m c).withAfter after).arrAt_eq_of_covers 12 _ (by decide +kernel) fun t hf y => ?_
  obtain ⟨Y, -, hX⟩ := hL 12 t hf
  rw [RDat.withAfter_after, (left12 m c t Y _).mp hX]
  blk_simp
  obtain ⟨a, R, d, rfl⟩ := ex3 (a := 1) (b := 256) (c := 2048) y
  obtain rfl : a = 0 := Subsingleton.elim _ _
  exact (out12_eq m c t R d).trans (congrArg (args m c).hqA (emb12 t R d)).symm

/-- The fifth result is the scales of that copy. -/
theorem arr13 : ((rd m c).withAfter after).arrAt 13 cfg0.N = (args m c).hsA := by
  refine ((rd m c).withAfter after).arrAt_eq_of_after_last 13 ⟨79, by decide⟩ (by decide +kernel) _ fun j => ?_
  rw [RDat.withAfter_after]
  have hX := hL 13 ⟨79, by decide⟩ ((flush0_13 _).mpr rfl)
  obtain ⟨b, r, rfl⟩ := ex2 (a := 8) (b := 2560) j
  exact run13 m c 79 ⟨79, by decide⟩ rfl _ hX b r (by have := b.isLt; have := r.isLt; omega)
end

/-- At the end of every run the five results are the functions of Spec.lean at the argument arrays. -/
theorem results {r} (h : Pipeline.RDat.FramePost (cfgs 0) (rd m) (V m) r) (c : Dev nD) :
    r.2.mem ((c.tc : Thread nD τ).loc main_v0_0) = (args m c).dxA
      ∧ r.2.mem ((c.tc : Thread nD τ).loc main_v0_1) = (args m c).dmodA
      ∧ r.2.mem ((c.tc : Thread nD τ).loc main_v0_2) = (args m c).blkA
      ∧ r.2.mem ((c.tc : Thread nD τ).loc main_v0_3) = (args m c).hqA
      ∧ r.2.mem ((c.tc : Thread nD τ).loc main_v0_4) = (args m c).hsA := by
  obtain ⟨after, hL, hA⟩ := RDat.FramePost.exists_exact h c
  exact ⟨(hA 9).trans (arr9 m c after hL), (hA 10).trans (arr10 m c after hL), (hA 11).trans (arr11 m c after hL),
    (hA 12).trans (arr12 m c after hL), (hA 13).trans (arr13 m c after hL)⟩

end Cert.KernelIdeal.Body

end
-- ==== Proof.RefRows.lean ====
/- The reference's five results, as the functions of Spec.lean of the nine argument arrays. -/
module
public import proofs.«01_k».proof.Proof.Quant
public import proofs.«01_k».proof.Proof.Gen.ReferenceIdeal.Value
public import Idealize.ShloMosaic.Lib.Pointwise
@[expose] public section
set_option maxRecDepth 16384
noncomputable section
namespace Cert.ReferenceIdeal.Body
open Cert.ReferenceIdeal Cert.ReferenceIdeal.Gen Idealize.ShloMosaic Cert.Spec Cert.Quant

section
variable (x : Vec Ideal S8x2560x2048 .fp8e4m3) (s t u : Vec Ideal S8x2560 .f32)
  (y : Vec Ideal S8x2560x2048 .fp8e5m2) (m w : Vec Ideal S8x2048 .f32)
  (b : Fin 8) (r : Fin 2560) (d : Fin 2048)

/-- A row of codes times its scale. -/
def rrow (v : S8x2560x2048.Idx → EReal) (s : S8x2560.Idx → EReal) (b : Fin 8) (r : Fin 2560) : Row :=
  fun d => v (ix3 b r d) * s (ix2 b r)

theorem pay1_at : k0_pay1 y s (ix3 b r d) = rrow y s b r d := by
  pointwise [k0_pay1]; rfl
theorem pay2_at : k0_pay2 y s (ix3 b r d) = rrow y s b r d := by
  pointwise [k0_pay2]; rfl
theorem pay3_at : k0_pay3 x s (ix3 b r d) = cent (rrow x s b r) d := by
  pointwise [k0_pay3]; rfl
theorem pay4_at (c : Fin 1) : k0_pay4 x s (ix3 b r c) = rstd (rrow x s b r) := by
  obtain rfl : c = 0 := Subsingleton.elim _ _
  pointwise [k0_pay4]
  simp only [pay3_at]; rfl
theorem pay5_at : k0_pay5 x s (ix3 b r d) = xhat (rrow x s b r) d := by
  pointwise [k0_pay5]
  rw [pay3_at, pay4_at]; rfl
theorem pay6_at : k0_pay6 m (ix2 b d) = 1 + m (ix2 b d) := by
  pointwise [k0_pay6]
theorem pay8_at : k0_pay8 (k0_pay5 x s) (k0_pay6 m) w (ix3 b r d)
    = hrow (rrow x s b r) (fun d => 1 + m (ix2 b d)) (fun d => w (ix2 b d)) d := by
  have h : k0_pay8 (k0_pay5 x s) (k0_pay6 m) w (ix3 b r d)
      = k0_pay5 x s (ix3 b r d) * k0_pay6 m (ix2 b d) + w (ix2 b d) := by
    generalize k0_pay5 x s = p
    generalize k0_pay6 m = q
    pointwise [k0_pay8, k0_pay7]
  rw [h, pay5_at, pay6_at]; rfl

/-! The scale, from the largest magnitude of each row. -/

/-- The largest magnitude of each row. -/
def amaxV (h : FVec Ideal S8x2560x2048 .f32) : FVec Ideal S8x2560 .f32 :=
  multiReduction .maximumf [2] S8x2560 (absf h) 0xFF800000#32 reduces_S8x2560x2048_S8x2560 (.inl rfl) rfl

theorem amaxV_at (h : FVec Ideal S8x2560x2048 .f32) : amaxV h (ix2 b r) = amax fun d => h (ix3 b r d) := by
  pointwise [amaxV]; rfl

/-- The powers of two from `2^-126` to `2^120`. -/
def powers : FVec Ideal S8x2560x247 .f32 :=
  exp2 (sitofp .f32 (subi (iota .tc S8x2560x247 32 [2] iota_S8x2560x247_d2_w32) (broadcast S8x2560x247 126#32)))

theorem powers_at (k : Fin 247) : powers (ix3 b r k) = pow2 (((k : ℕ) : ℤ) - 126) := by
  have h : powers (ix3 b r k)
      = Ideal.exp2 ((((IntOp.subi (BitVec.ofNat 32 k) 126#32 : BitVec 32).toInt : ℝ)) : EReal) := by
    pointwise [powers]; rfl
  have e : ∀ k : Fin 247, (IntOp.subi (BitVec.ofNat 32 k) 126#32 : BitVec 32).toInt = ((k : ℕ) : ℤ) - 126 := by
    decide +kernel
  rw [h, e, Ideal.exp2_coe]
  unfold pow2
  congr 1
  exact Real.rpow_intCast 2 _

/-- The least power above, from the largest magnitudes. -/
def leastV (a : FVec Ideal S8x2560 .f32) (p : FVec Ideal S8x2560x247 .f32) : FVec Ideal S8x2560 .f32 :=
  multiReduction .minimumf [2] S8x2560
    (select (cmpf .ogt p (broadcastTo S8x2560x247 (shapeCast S8x2560x1 (mulf a (broadcast S8x2560 (Scalar.ofBits .f32 0x3B124925#32)))
      shapeCasts_S8x2560_S8x2560x1) broadcasts_S8x2560x1_S8x2560x247)) p (broadcast S8x2560x247 (Scalar.ofBits .f32 0x7B800000#32)))
    0x7F800000#32 reduces_S8x2560x247_S8x2560 (.inl rfl) rfl

theorem leastV_at (a : FVec Ideal S8x2560 .f32) (p : FVec Ideal S8x2560x247 .f32) : leastV a p (ix2 b r)
    = Finset.univ.fold min (Ideal.ofBits .f32 0x7F800000#32) (fun k : Fin 247 =>
        if a (ix2 b r) * Ideal.ofBits .f32 0x3B124925#32 < p (ix3 b r k) then p (ix3 b r k) else Ideal.ofBits .f32 0x7B800000#32) := by
  pointwise [leastV]

theorem oneV_at (a c : FVec Ideal S8x2560 .f32) :
    (select (cmpf .oeq a (broadcast S8x2560 (Scalar.ofBits .f32 0x00000000#32))) (broadcast S8x2560 (Scalar.ofBits .f32 0x3F800000#32)) c) (ix2 b r)
      = if a (ix2 b r) = 0 then 1 else c (ix2 b r) := by
  pointwise []

theorem pay9_eq (p : FVec Ideal S8x2560x2048 .f32) (q : FVec Ideal S8x2048 .f32) :
    k0_pay9 p q w = select (cmpf .oeq (amaxV (k0_pay8 p q w)) (broadcast S8x2560 (Scalar.ofBits .f32 0x00000000#32)))
      (broadcast S8x2560 (Scalar.ofBits .f32 0x3F800000#32)) (leastV (amaxV (k0_pay8 p q w)) powers) := by
  simp only [k0_pay9, amaxV, leastV, powers]

theorem top_word : Ideal.ofBits .f32 0x7F800000#32 = ⊤ := by
  have := T_eq 255 (by omega)
  rw [if_pos rfl] at this
  exact this

theorem big_word : Ideal.ofBits .f32 0x7B800000#32 = pow2 120 := by
  have := T_mid 247 (by omega) (by omega)
  rw [show ((247 : ℕ) : ℤ) - 127 = 120 by norm_num] at this
  exact this

theorem pay9_at : k0_pay9 (k0_pay5 x s) (k0_pay6 m) w (ix2 b r)
    = scale (amax (hrow (rrow x s b r) (fun d => 1 + m (ix2 b d)) (fun d => w (ix2 b d)))) := by
  rw [pay9_eq, oneV_at, leastV_at, amaxV_at, top_word, big_word]
  simp only [powers_at, pay8_at]
  rfl

/-! The codes. -/

def codeV (h : FVec Ideal S8x2560x2048 .f32) (c : FVec Ideal S8x2560 .f32) : FVec Ideal S8x2560x2048 .fp8e4m3 :=
  truncf .fp8e4m3 (minimumf (broadcast S8x2560x2048 (Scalar.ofBits .f32 0x43E00000#32))
    (maximumf (broadcast S8x2560x2048 (Scalar.ofBits .f32 0xC3E00000#32)) (mulf h (broadcastTo S8x2560x2048
      (shapeCast S8x2560x1 (divf (broadcast S8x2560 (Scalar.ofBits .f32 0x3F800000#32)) c) shapeCasts_S8x2560_S8x2560x1)
      broadcasts_S8x2560x1_S8x2560x2048)))) bitsLt_fp8e4m3_f32

theorem codeV_at (h : FVec Ideal S8x2560x2048 .f32) (c : FVec Ideal S8x2560 .f32) :
    codeV h c (ix3 b r d) = code (h (ix3 b r d)) (c (ix2 b r)) := by
  pointwise [codeV]; rfl

theorem pay10_eq (p : FVec Ideal S8x2560x2048 .f32) (q : FVec Ideal S8x2048 .f32) :
    k0_pay10 p q w = codeV (k0_pay8 p q w) (k0_pay9 p q w) := by
  simp only [k0_pay10, codeV]

theorem pay10_at : k0_pay10 (k0_pay5 x s) (k0_pay6 m) w (ix3 b r d)
    = code (hrow (rrow x s b r) (fun d => 1 + m (ix2 b d)) (fun d => w (ix2 b d)) d)
      (scale (amax (hrow (rrow x s b r) (fun d => 1 + m (ix2 b d)) (fun d => w (ix2 b d))))) := by
  rw [pay10_eq, codeV_at, pay8_at, pay9_at]

theorem pay12_at (v11 v17 v33 : FVec Ideal S8x2560x2048 .f32) (v80 : Vec Ideal S8x2560x2048 .bf16) (c : Fin 20) (q : Fin 3) :
    k0_pay12 v11 v17 v33 (k0_pay11 v17) v80 (ix4 b c q d) = ∑ j : Fin 128,
      (if q.val = 0 then v17 (ix3 b ⟨c.val * 128 + j.val, by omega⟩ d)
       else if q.val = 1 then v17 (ix3 b ⟨c.val * 128 + j.val, by omega⟩ d) * v33 (ix3 b ⟨c.val * 128 + j.val, by omega⟩ d)
       else v11 (ix3 b ⟨c.val * 128 + j.val, by omega⟩ d) * v80 (ix3 b ⟨c.val * 128 + j.val, by omega⟩ d)) := by
  have h11 : k0_pay11 v17 (ix3 b c d) = ∑ j : Fin 128, v17 (ix3 b ⟨c.val * 128 + j.val, by omega⟩ d) := by
    pointwise [k0_pay11]
  generalize k0_pay11 v17 = v76 at h11 ⊢
  fin_cases q
  · pointwise [k0_pay12]
    exact h11
  · pointwise [k0_pay12]
  · pointwise [k0_pay12]

theorem pay13_at (v11 v17 v33 : FVec Ideal S8x2560x2048 .f32) (v76 : FVec Ideal S8x20x2048 .f32)
    (v80 : Vec Ideal S8x2560x2048 .bf16) (q : Fin 3) :
    k0_pay13 v11 v17 v33 v76 v80 (ix3 b q d) = ∑ c : Fin 20, k0_pay12 v11 v17 v33 v76 v80 (ix4 b c q d) := by
  have e : ∀ z : FVec Ideal S8x20x3x2048 .f32,
      (multiReduction (F := Ideal) (φ := .f32) .add [1] S8x3x2048 z 0x00000000#32 reduces_S8x20x3x2048_S8x3x2048 (.inl rfl) rfl) (ix3 b q d)
        = ∑ c : Fin 20, z (ix4 b c q d) := by
    intro z
    pointwise []
  exact e _

theorem pay14_at (dh dy : FVec Ideal S8x2560x2048 .f32) :
    k0_pay14 dy dh (k0_pay4 x s) (k0_pay5 x s) (k0_pay7 (k0_pay6 m)) (ix3 b r d)
      = dxrow (rrow x s b r) (fun d => dy (ix3 b r d)) (fun d => dh (ix3 b r d)) (fun d => 1 + m (ix2 b d)) d := by
  have e7 : ∀ d, k0_pay7 (k0_pay6 m) (ix3 b 0 d) = 1 + m (ix2 b d) := by
    intro d
    rw [← pay6_at]
    generalize k0_pay6 m = q
    pointwise [k0_pay7]
  have e4 := pay4_at x s b r 0
  have e5 := fun d => pay5_at x s b r d
  generalize k0_pay7 (k0_pay6 m) = o at e7 ⊢
  generalize k0_pay4 x s = p4 at e4 ⊢
  generalize k0_pay5 x s = p5 at e5 ⊢
  pointwise [k0_pay14]
  simp only [e7, e4, e5]; rfl

end

/-! ### The five results -/

section
variable (a0 : Vec Ideal S8x2560x2048 .fp8e4m3) (a1 : Vec Ideal S8x2560 .f32) (a2 : Vec Ideal S8x2560x2048 .bf16)
  (a3 : Vec Ideal S8x2560x2048 .fp8e5m2) (a4 : Vec Ideal S8x2560 .f32) (a5 : Vec Ideal S8x2560x2048 .fp8e5m2)
  (a6 : Vec Ideal S8x2560 .f32) (a7 a8 : Vec Ideal S8x2048 .f32)

theorem z3 : (![0, 0, 0] : Fin 3 → Nat) = fun _ => 0 := funext fun a => by fin_cases a <;> rfl
theorem z2 : (![0, 0] : Fin 2 → Nat) = fun _ => 0 := funext fun a => by fin_cases a <;> rfl

theorem pay15_eq : k0_pay15 a0 a1 a2 a3 a4 a5 a6 a7 a8 = k0_pay1 a3 a4 := by
  unfold k0_pay15
  rw [View.ld_unit_zero (S := S8x2560x2048) z3 _ a3, View.ld_unit_zero (S := S8x2560) z2 _ a4]
theorem pay16_eq : k0_pay16 a0 a1 a2 a3 a4 a5 a6 a7 a8 = k0_pay2 a5 a6 := by
  unfold k0_pay16
  rw [View.ld_unit_zero (S := S8x2560x2048) z3 _ a5, View.ld_unit_zero (S := S8x2560) z2 _ a6]
theorem pay17_eq : k0_pay17 a0 a1 a2 a3 a4 a5 a6 a7 a8 = k0_pay5 a0 a1 := by
  unfold k0_pay17
  rw [View.ld_unit_zero (S := S8x2560x2048) z3 _ a0, View.ld_unit_zero (S := S8x2560) z2 _ a1]
theorem pay18_eq : k0_pay18 a0 a1 a2 a3 a4 a5 a6 a7 a8 = k0_pay6 a7 := by
  unfold k0_pay18
  rw [View.ld_unit_zero (S := S8x2048) z2 _ a7]
theorem pay19_eq : k0_pay19 a0 a1 a2 a3 a4 a5 a6 a7 a8 = k0_pay11 (k0_pay2 a5 a6) := by
  unfold k0_pay19
  rw [pay16_eq]

/-- The reference's input gradient. -/
theorem ref_dx : Value.G9 a0 a1 a2 a3 a4 a5 a6 a7 a8 = (argsOf a0 a1 a2 a3 a4 a5 a6 a7 a8).dxA := by
  funext j
  obtain ⟨b, r, d, rfl⟩ := ex3 j
  unfold Value.G9
  rw [pay15_eq, pay16_eq, pay17_eq, pay18_eq, pay14_at]
  simp only [pay1_at, pay2_at]
  rfl

theorem ref_blk_at (b : Fin 8) (c : Fin 20) (q : Fin 3) (d : Fin 2048) :
    k0_pay12 (k0_pay1 a3 a4) (k0_pay2 a5 a6) (k0_pay5 a0 a1) (k0_pay11 (k0_pay2 a5 a6)) a2 (ix4 b c q d)
      = (argsOf a0 a1 a2 a3 a4 a5 a6 a7 a8).blk b c q d := by
  rw [pay12_at]
  simp only [pay1_at, pay2_at, pay5_at]
  rfl

/-- The reference's gradients of each block of 128 rows. -/
theorem ref_blk : Value.G11 a0 a1 a2 a3 a4 a5 a6 a7 a8 = (argsOf a0 a1 a2 a3 a4 a5 a6 a7 a8).blkA := by
  funext j
  obtain ⟨b, c, q, d, rfl⟩ := ex4 j
  unfold Value.G11
  rw [pay15_eq, pay16_eq, pay17_eq, pay19_eq, ref_blk_at a0 a1 a2 a3 a4 a5 a6 a7 a8]
  rfl

/-- The reference's gradients. -/
theorem ref_dmod : Value.G10 a0 a1 a2 a3 a4 a5 a6 a7 a8 = (argsOf a0 a1 a2 a3 a4 a5 a6 a7 a8).dmodA := by
  funext j
  obtain ⟨b, q, d, rfl⟩ := ex3 j
  unfold Value.G10
  rw [pay15_eq, pay16_eq, pay17_eq, pay19_eq, pay13_at]
  simp only [ref_blk_at a0 a1 a2 a3 a4 a5 a6 a7 a8]
  rfl

/-- The reference's fp8 codes. -/
theorem ref_hq : Value.G12 a0 a1 a2 a3 a4 a5 a6 a7 a8 = (argsOf a0 a1 a2 a3 a4 a5 a6 a7 a8).hqA := by
  funext j
  obtain ⟨b, r, d, rfl⟩ := ex3 j
  unfold Value.G12
  rw [pay17_eq, pay18_eq, pay10_at]
  rfl

/-- The reference's scales. -/
theorem ref_hs : Value.G13 a0 a1 a2 a3 a4 a5 a6 a7 a8 = (argsOf a0 a1 a2 a3 a4 a5 a6 a7 a8).hsA := by
  funext j
  obtain ⟨b, r, rfl⟩ := ex2 j
  unfold Value.G13
  rw [pay17_eq, pay18_eq, pay9_at]
  rfl

end
end Cert.ReferenceIdeal.Body
-- ==== Proof.Algebraic.lean ====
/- The kernel and the reference, run on the same arguments in extended reals, end with the same five results. -/
module

public import proofs.«01_k».proof.Proof.Arrays
public import proofs.«01_k».proof.Proof.RefRows
public import proofs.«01_k».proof.Defs

@[expose] public section

noncomputable section

namespace Cert.Proof

open Idealize.ShloMosaic Idealize.SL.Sem Cert.Spec

/-- From equal arguments, the kernel and the reference both run and end with the same five results: the functions of
    Spec.lean at the arguments. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => (KernelIdeal.Body.args m c).dxA, fun c => (KernelIdeal.Body.args m c).dmodA, fun c => (KernelIdeal.Body.args m c).blkA,
    fun c => (KernelIdeal.Body.args m c).hqA, fun c => (KernelIdeal.Body.args m c).hsA, ?_, ?_⟩
  · refine (θ_run _ _ _).mono (fun r h c => ?_) (KernelIdeal.Body.run m g)
    obtain ⟨h0, h1, h2, h3, h4⟩ := KernelIdeal.Body.results m h.1 c
    exact ⟨h0, h1, h2, h3, h4, KernelIdeal.Body.unchanged_of m h.1 c⟩
  · refine (θ_run _ _ _).mono (fun r h c => ?_) (ReferenceIdeal.Value.run m' g')
    obtain ⟨h0, h1, h2, h3, h4, hk⟩ := h c
    obtain ⟨e0, e1, e2, e3, e4, e5, e6, e7, e8⟩ := hm c
    have q0 := h0.trans (ReferenceIdeal.Body.ref_dx _ _ _ _ _ _ _ _ _)
    have q1 := h1.trans (ReferenceIdeal.Body.ref_dmod _ _ _ _ _ _ _ _ _)
    have q2 := h2.trans (ReferenceIdeal.Body.ref_blk _ _ _ _ _ _ _ _ _)
    have q3 := h3.trans (ReferenceIdeal.Body.ref_hq _ _ _ _ _ _ _ _ _)
    have q4 := h4.trans (ReferenceIdeal.Body.ref_hs _ _ _ _ _ _ _ _ _)
    rw [e0, e1, e2, e3, e4, e5, e6, e7, e8] at q0 q1 q2 q3 q4
    exact ⟨q0, q1, q2, q3, q4, hk⟩

end Cert.Proof

end
-- ==== Proof.lean ====
/- The proof of the certificate's claims: the frames of the kernel, of its reading in extended reals and of the reference's,
   the agreement of the kernel with its reading, and the equality of the kernel's results with the reference's. -/
module

public import proofs.«01_k».proof.Defs
public import proofs.«01_k».proof.Proof.KernelFrame
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  fun m ρ _ => Cert.Kernel.Frame.frame m ρ, fun m ρ _ => Cert.KernelIdeal.Body.frame m ρ,
  fun m ρ _ => Cert.ReferenceIdeal.Gen.frame m ρ, trivial, algebraic⟩

end Cert.Proof

end
